-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))).2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S4x4096x32x9 : Shape := ⟨4, ![4, 4096, 32, 9]⟩
abbrev S4x4096x32 : Shape := ⟨3, ![4, 4096, 32]⟩
abbrev S9x64 : Shape := ⟨2, ![9, 64]⟩
abbrev S64 : Shape := ⟨1, ![64]⟩
abbrev S128x64 : Shape := ⟨2, ![128, 64]⟩
abbrev S64x64 : Shape := ⟨2, ![64, 64]⟩
abbrev S64x128 : Shape := ⟨2, ![64, 128]⟩
abbrev S128 : Shape := ⟨1, ![128]⟩
abbrev S_ : Shape := ⟨0, ![]⟩

class Facts : Prop where
  bcast_S_S4x4096x32x9 : S_.BroadcastsInDim S4x4096x32x9 (![] : Fin 0 → Fin S4x4096x32x9.rank)
  bcast_S_S9x64 : S_.BroadcastsInDim S9x64 (![] : Fin 0 → Fin S9x64.rank)
  bcast_S_S64 : S_.BroadcastsInDim S64 (![] : Fin 0 → Fin S64.rank)
  bcast_S_S128x64 : S_.BroadcastsInDim S128x64 (![] : Fin 0 → Fin S128x64.rank)
  bcast_S_S64x64 : S_.BroadcastsInDim S64x64 (![] : Fin 0 → Fin S64x64.rank)

variable [Facts]

def fn_part1 {F : FTy → Type} [FloatOps F] (main_arg7 : FVec F S64 .f32) (main_arg8 : FVec F S64x64 .f32) (main_arg9 : FVec F S64 .f32) (main_v2 : IVec S4x4096x32x9 1) (main_v5 : IVec S9x64 1) (main_v8 : IVec S64 1) (main_v11 : IVec S64 1) (main_v14 : IVec S128x64 1) (main_v17 : IVec S64 1) : IVec S4x4096x32x9 1 × IVec S9x64 1 × IVec S64 1 × IVec S64 1 × IVec S128x64 1 × IVec S64 1 × IVec S64 1 × IVec S64x64 1 × IVec S64 1 :=
  let main_v18 : FVec F S64 .f32 := Host.absf main_arg7
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x64 .f32 := Host.absf main_arg8
  let main_cst_6 : FVec F S_ .f32 := constant S_ .f32 0x7F800000#32
  let main_v22 : FVec F S64x64 .f32 := broadcastInDim S64x64 ![] bcast_S_S64x64 main_cst_6
  let main_v23 : IVec S64x64 1 := cmpf .olt main_v21 main_v22
  let main_v24 : FVec F S64 .f32 := Host.absf main_arg9
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  (main_v2, main_v5, main_v8, main_v11, main_v14, main_v17, main_v20, main_v23, main_v26)

def fn {F : FTy → Type} [FloatOps F] (main_arg0 : FVec F S4x4096x32x9 .f32) (main_arg1 : IVec S4x4096x32 1) (main_arg2 : FVec F S9x64 .f32) (main_arg3 : FVec F S64 .f32) (main_arg4 : FVec F S64 .f32) (main_arg5 : FVec F S128x64 .f32) (main_arg6 : FVec F S64 .f32) (main_arg7 : FVec F S64 .f32) (main_arg8 : FVec F S64x64 .f32) (main_arg9 : FVec F S64 .f32) (main_arg10 : FVec F S64 .f32) (main_arg11 : FVec F S64x64 .f32) (main_arg12 : FVec F S64 .f32) (main_arg13 : FVec F S64x128 .f32) (main_arg14 : FVec F S128 .f32) : IVec S4x4096x32x9 1 × IVec S9x64 1 × IVec S64 1 × IVec S64 1 × IVec S128x64 1 × IVec S64 1 × IVec S64 1 × IVec S64x64 1 × IVec S64 1 :=
  let main_v0 : FVec F S4x4096x32x9 .f32 := Host.absf main_arg0
  let main_cst : FVec F S_ .f32 := constant S_ .f32 0x7F800000#32
  let main_v1 : FVec F S4x4096x32x9 .f32 := broadcastInDim S4x4096x32x9 ![] bcast_S_S4x4096x32x9 main_cst
  let main_v2 : IVec S4x4096x32x9 1 := cmpf .olt main_v0 main_v1
  let main_v3 : FVec F S9x64 .f32 := Host.absf main_arg2
  let main_cst_0 : FVec F S_ .f32 := constant S_ .f32 0x7F800000#32
  let main_v4 : FVec F S9x64 .f32 := broadcastInDim S9x64 ![] bcast_S_S9x64 main_cst_0
  let main_v5 : IVec S9x64 1 := cmpf .olt main_v3 main_v4
  let main_v6 : FVec F S64 .f32 := Host.absf main_arg3
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S128x64 .f32 := Host.absf main_arg5
  let main_cst_3 : FVec F S_ .f32 := constant S_ .f32 0x7F800000#32
  let main_v13 : FVec F S128x64 .f32 := broadcastInDim S128x64 ![] bcast_S_S128x64 main_cst_3
  let main_v14 : IVec S128x64 1 := cmpf .olt main_v12 main_v13
  let main_v15 : FVec F S64 .f32 := Host.absf main_arg6
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg7 main_arg8 main_arg9 main_v2 main_v5 main_v8 main_v11 main_v14 main_v17
-- ==== Kernel.lean ====
abbrev S4x4096x32x9 : Shape := ⟨4, ![4, 4096, 32, 9]⟩
abbrev S4x4096x32 : Shape := ⟨3, ![4, 4096, 32]⟩
abbrev S9x64 : Shape := ⟨2, ![9, 64]⟩
abbrev S64 : Shape := ⟨1, ![64]⟩
abbrev S128x64 : Shape := ⟨2, ![128, 64]⟩
abbrev S64x64 : Shape := ⟨2, ![64, 64]⟩
abbrev S64x128 : Shape := ⟨2, ![64, 128]⟩
abbrev S128 : Shape := ⟨1, ![128]⟩
abbrev S_ : Shape := ⟨0, ![]⟩
abbrev S1x64 : Shape := ⟨2, ![1, 64]⟩
abbrev S16x16 : Shape := ⟨2, ![16, 16]⟩
abbrev S16x1x16x1 : Shape := ⟨4, ![16, 1, 16, 1]⟩
abbrev S1x9x1x64 : Shape := ⟨4, ![1, 9, 1, 64]⟩
abbrev S16x9x16x64 : Shape := ⟨4, ![16, 9, 16, 64]⟩
abbrev S144x1024 : Shape := ⟨2, ![144, 1024]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S32x64 : Shape := ⟨2, ![32, 64]⟩
abbrev S2048 : Shape := ⟨1, ![2048]⟩
abbrev S1x2048 : Shape := ⟨2, ![1, 2048]⟩
abbrev S32x32 : Shape := ⟨2, ![32, 32]⟩
abbrev S32x1x32x1 : Shape := ⟨4, ![32, 1, 32, 1]⟩
abbrev S1x1x1x64 : Shape := ⟨4, ![1, 1, 1, 64]⟩
abbrev S32x1x32x64 : Shape := ⟨4, ![32, 1, 32, 64]⟩
abbrev S32x2048 : Shape := ⟨2, ![32, 2048]⟩
abbrev S16384x288 : Shape := ⟨2, ![16384, 288]⟩
abbrev S16384x32 : Shape := ⟨2, ![16384, 32]⟩
abbrev S1x128 : Shape := ⟨2, ![1, 128]⟩
abbrev S16384x128 : Shape := ⟨2, ![16384, 128]⟩
abbrev S2048x288 : Shape := ⟨2, ![2048, 288]⟩
abbrev S2048x32 : Shape := ⟨2, ![2048, 32]⟩
abbrev S2048x128 : Shape := ⟨2, ![2048, 128]⟩
abbrev S2048x2048 : Shape := ⟨2, ![2048, 2048]⟩
abbrev S2048x144 : Shape := ⟨2, ![2048, 144]⟩
abbrev S2048x1024 : Shape := ⟨2, ![2048, 1024]⟩
abbrev S2048x512 : Shape := ⟨2, ![2048, 512]⟩
abbrev S2048x256 : Shape := ⟨2, ![2048, 256]⟩
abbrev S2048x64 : Shape := ⟨2, ![2048, 64]⟩
abbrev S2048x16 : Shape := ⟨2, ![2048, 16]⟩
abbrev S2048x8 : Shape := ⟨2, ![2048, 8]⟩
abbrev S2048x4 : Shape := ⟨2, ![2048, 4]⟩
abbrev S2048x2 : Shape := ⟨2, ![2048, 2]⟩
abbrev S2048x1 : Shape := ⟨2, ![2048, 1]⟩
abbrev S4x4096x128 : Shape := ⟨3, ![4, 4096, 128]⟩

abbrev nBuf : Space → Nat
  | .hbm => 114
  | .vmem => 18
  | .smem => 0
  | _ => 0

abbrev bufTy : (tb : Table) → Fin (tcTables nBuf tb) → BufTy
  | .hbm, ⟨0, _⟩ => ⟨S4x4096x32x9, .f32⟩
  | .hbm, ⟨1, _⟩ => ⟨S4x4096x32, .i1⟩
  | .hbm, ⟨2, _⟩ => ⟨S9x64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S1x64, .f32⟩
  | .hbm, ⟨23, _⟩ => ⟨S9x64, .f32⟩
  | .hbm, ⟨24, _⟩ => ⟨S9x64, .f32⟩
  | .hbm, ⟨25, _⟩ => ⟨S9x64, .bf16⟩
  | .hbm, ⟨26, _⟩ => ⟨S16x16, .i32⟩
  | .hbm, ⟨27, _⟩ => ⟨S16x16, .i32⟩
  | .hbm, ⟨28, _⟩ => ⟨S_, .i32⟩
  | .hbm, ⟨29, _⟩ => ⟨S16x16, .i32⟩
  | .hbm, ⟨30, _⟩ => ⟨S16x16, .i32⟩
  | .hbm, ⟨31, _⟩ => ⟨S16x16, .i1⟩
  | .hbm, ⟨32, _⟩ => ⟨S16x16, .bf16⟩
  | .hbm, ⟨33, _⟩ => ⟨S16x1x16x1, .bf16⟩
  | .hbm, ⟨34, _⟩ => ⟨S1x9x1x64, .bf16⟩
  | .hbm, ⟨35, _⟩ => ⟨S16x9x16x64, .bf16⟩
  | .hbm, ⟨36, _⟩ => ⟨S16x9x16x64, .bf16⟩
  | .hbm, ⟨37, _⟩ => ⟨S16x9x16x64, .bf16⟩
  | .hbm, ⟨38, _⟩ => ⟨S144x1024, .bf16⟩
  | .hbm, ⟨39, _⟩ => ⟨S_, .f32⟩
  | .hbm, ⟨40, _⟩ => ⟨S64, .f32⟩
  | .hbm, ⟨41, _⟩ => ⟨S64, .f32⟩
  | .hbm, ⟨42, _⟩ => ⟨S1x64, .f32⟩
  | .hbm, ⟨43, _⟩ => ⟨S128x64, .f32⟩
  | .hbm, ⟨44, _⟩ => ⟨S128x64, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .bf16⟩
  | .hbm, ⟨52, _⟩ => ⟨S64x64, .f32⟩
  | .hbm, ⟨53, _⟩ => ⟨S64x64, .bf16⟩
  | .hbm, ⟨54, _⟩ => ⟨S4x1x4x1, .bf16⟩
  | .hbm, ⟨55, _⟩ => ⟨S1x64x1x64, .bf16⟩
  | .hbm, ⟨56, _⟩ => ⟨S4x64x4x64, .bf16⟩
  | .hbm, ⟨57, _⟩ => ⟨S4x64x4x64, .bf16⟩
  | .hbm, ⟨58, _⟩ => ⟨S4x64x4x64, .bf16⟩
  | .hbm, ⟨59, _⟩ => ⟨S256x256, .bf16⟩
  | .hbm, ⟨60, _⟩ => ⟨S64x64, .f32⟩
  | .hbm, ⟨61, _⟩ => ⟨S64x64, .bf16⟩
  | .hbm, ⟨62, _⟩ => ⟨S4x4, .i32⟩
  | .hbm, ⟨63, _⟩ => ⟨S4x4, .i32⟩
  | .hbm, ⟨64, _⟩ => ⟨S_, .i32⟩
  | .hbm, ⟨65, _⟩ => ⟨S4x4, .i32⟩
  | .hbm, ⟨66, _⟩ => ⟨S4x4, .i32⟩
  | .hbm, ⟨67, _⟩ => ⟨S4x4, .i1⟩
  | .hbm, ⟨68, _⟩ => ⟨S4x4, .bf16⟩
  | .hbm, ⟨69, _⟩ => ⟨S_, .f32⟩
  | .hbm, ⟨70, _⟩ => ⟨S64, .f32⟩
  | .hbm, ⟨71, _⟩ => ⟨S64, .f32⟩
  | .hbm, ⟨72, _⟩ => ⟨S1x64, .f32⟩
  | .hbm, ⟨73, _⟩ => ⟨S64x64, .f32⟩
  | .hbm, ⟨74, _⟩ => ⟨S64x64, .f32⟩
  | .hbm, ⟨75, _⟩ => ⟨S64x64, .bf16⟩
  | .hbm, ⟨76, _⟩ => ⟨S4x1x4x1, .bf16⟩
  | .hbm, ⟨77, _⟩ => ⟨S1x64x1x64, .bf16⟩
  | .hbm, ⟨78, _⟩ => ⟨S4x64x4x64, .bf16⟩
  | .hbm, ⟨79, _⟩ => ⟨S4x64x4x64, .bf16⟩
  | .hbm, ⟨80, _⟩ => ⟨S4x64x4x64, .bf16⟩
  | .hbm, ⟨81, _⟩ => ⟨S256x256, .bf16⟩
  | .hbm, ⟨82, _⟩ => ⟨S1x64, .f32⟩
  | .hbm, ⟨83, _⟩ => ⟨S32x64, .f32⟩
  | .hbm, ⟨84, _⟩ => ⟨S2048, .f32⟩
  | .hbm, ⟨85, _⟩ => ⟨S1x2048, .f32⟩
  | .hbm, ⟨86, _⟩ => ⟨S1x64, .f32⟩
  | .hbm, ⟨87, _⟩ => ⟨S32x64, .f32⟩
  | .hbm, ⟨88, _⟩ => ⟨S2048, .f32⟩
  | .hbm, ⟨89, _⟩ => ⟨S1x2048, .f32⟩
  | .hbm, ⟨90, _⟩ => ⟨S32x32, .i32⟩
  | .hbm, ⟨91, _⟩ => ⟨S32x32, .i32⟩
  | .hbm, ⟨92, _⟩ => ⟨S_, .i32⟩
  | .hbm, ⟨93, _⟩ => ⟨S32x32, .i32⟩
  | .hbm, ⟨94, _⟩ => ⟨S32x32, .i32⟩
  | .hbm, ⟨95, _⟩ => ⟨S32x32, .i1⟩
  | .hbm, ⟨96, _⟩ => ⟨S32x32, .bf16⟩
  | .hbm, ⟨97, _⟩ => ⟨S_, .bf16⟩
  | .hbm, ⟨98, _⟩ => ⟨S1x64, .bf16⟩
  | .hbm, ⟨99, _⟩ => ⟨S32x1x32x1, .bf16⟩
  | .hbm, ⟨100, _⟩ => ⟨S1x1x1x64, .bf16⟩
  | .hbm, ⟨101, _⟩ => ⟨S32x1x32x64, .bf16⟩
  | .hbm, ⟨102, _⟩ => ⟨S32x1x32x64, .bf16⟩
  | .hbm, ⟨103, _⟩ => ⟨S32x1x32x64, .bf16⟩
  | .hbm, ⟨104, _⟩ => ⟨S32x2048, .bf16⟩
  | .hbm, ⟨105, _⟩ => ⟨S16384x288, .f32⟩
  | .hbm, ⟨106, _⟩ => ⟨S16384x288, .bf16⟩
  | .hbm, ⟨107, _⟩ => ⟨S16384x32, .i1⟩
  | .hbm, ⟨108, _⟩ => ⟨S1x64, .f32⟩
  | .hbm, ⟨109, _⟩ => ⟨S1x64, .f32⟩
  | .hbm, ⟨110, _⟩ => ⟨S1x128, .f32⟩
  | .hbm, ⟨111, _⟩ => ⟨S16384x32, .i32⟩
  | .hbm, ⟨112, _⟩ => ⟨S16384x128, .f32⟩
  | .hbm, ⟨113, _⟩ => ⟨S4x4096x128, .f32⟩
  | .local _ .vmem, ⟨0, _⟩ => ⟨S2048x288, .bf16⟩
  | .local _ .vmem, ⟨1, _⟩ => ⟨S2048x288, .bf16⟩
  | .local _ .vmem, ⟨2, _⟩ => ⟨S2048x32, .i32⟩
  | .local _ .vmem, ⟨3, _⟩ => ⟨S2048x32, .i32⟩
  | .local _ .vmem, ⟨4, _⟩ => ⟨S32x2048, .bf16⟩
  | .local _ .vmem, ⟨5, _⟩ => ⟨S144x1024, .bf16⟩
  | .local _ .vmem, ⟨6, _⟩ => ⟨S1x2048, .f32⟩
  | .local _ .vmem, ⟨7, _⟩ => ⟨S256x256, .bf16⟩
  | .local _ .vmem, ⟨8, _⟩ => ⟨S64x64, .bf16⟩
  | .local _ .vmem, ⟨9, _⟩ => ⟨S1x64, .f32⟩
  | .local _ .vmem, ⟨10, _⟩ => ⟨S256x256, .bf16⟩
  | .local _ .vmem, ⟨11, _⟩ => ⟨S1x2048, .f32⟩
  | .local _ .vmem, ⟨12, _⟩ => ⟨S64x64, .f32⟩
  | .local _ .vmem, ⟨13, _⟩ => ⟨S1x64, .f32⟩
  | .local _ .vmem, ⟨14, _⟩ => ⟨S64x128, .f32⟩
  | .local _ .vmem, ⟨15, _⟩ => ⟨S1x128, .f32⟩
  | .local _ .vmem, ⟨16, _⟩ => ⟨S2048x128, .f32⟩
  | .local _ .vmem, ⟨17, _⟩ => ⟨S2048x128, .f32⟩
  | _, _ => ⟨S4x4096x32x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_cst : Ref sig .tc := ⟨.hbm, 15, rfl⟩
abbrev main_v0 : Ref sig .tc := ⟨.hbm, 16, rfl⟩
abbrev main_cst_0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_c_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_2 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_c_3 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_4 : Ref sig .tc := ⟨.hbm, 97, rfl⟩
abbrev main_v61 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x288 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S144x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S2048x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S4x4096x32x9 : Shape := ⟨4, ![4, 4096, 32, 9]⟩
abbrev S4x4096x32 : Shape := ⟨3, ![4, 4096, 32]⟩
abbrev S9x64 : Shape := ⟨2, ![9, 64]⟩
abbrev S64 : Shape := ⟨1, ![64]⟩
abbrev S128x64 : Shape := ⟨2, ![128, 64]⟩
abbrev S64x64 : Shape := ⟨2, ![64, 64]⟩
abbrev S64x128 : Shape := ⟨2, ![64, 128]⟩
abbrev S128 : Shape := ⟨1, ![128]⟩
abbrev S4x4096x32x1 : Shape := ⟨4, ![4, 4096, 32, 1]⟩
abbrev S4x4096x32x64 : Shape := ⟨4, ![4, 4096, 32, 64]⟩
abbrev S1x1x1x64 : Shape := ⟨4, ![1, 1, 1, 64]⟩
abbrev S_ : Shape := ⟨0, ![]⟩
abbrev S4x4096x64 : Shape := ⟨3, ![4, 4096, 64]⟩
abbrev S4x4096x1x64 : Shape := ⟨4, ![4, 4096, 1, 64]⟩
abbrev S4x4096x32x128 : Shape := ⟨4, ![4, 4096, 32, 128]⟩
abbrev S4x4096 : Shape := ⟨2, ![4, 4096]⟩
abbrev S1x1x64 : Shape := ⟨3, ![1, 1, 64]⟩
abbrev S4x4096x128 : Shape := ⟨3, ![4, 4096, 128]⟩
abbrev S1x1x128 : Shape := ⟨3, ![1, 1, 128]⟩
abbrev S4x4096x1 : Shape := ⟨3, ![4, 4096, 1]⟩

abbrev nBuf : Space → Nat
  | .hbm => 91
  | .vmem => 0
  | .smem => 0
  | _ => 0

abbrev bufTy : (tb : Table) → Fin (tcTables nBuf tb) → BufTy
  | .hbm, ⟨0, _⟩ => ⟨S4x4096x32x9, .f32⟩
  | .hbm, ⟨1, _⟩ => ⟨S4x4096x32, .i1⟩
  | .hbm, ⟨2, _⟩ => ⟨S9x64, .f32⟩
  | .hbm, ⟨3, _⟩ => ⟨S64, .f32⟩
  | .hbm, ⟨4, _⟩ => ⟨S64, .f32⟩
  | .hbm, ⟨5, _⟩ => ⟨S128x64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64x128, .f32⟩
  | .hbm, ⟨14, _⟩ => ⟨S128, .f32⟩
  | .hbm, ⟨15, _⟩ => ⟨S4x4096x32x1, .i1⟩
  | .hbm, ⟨16, _⟩ => ⟨S4x4096x32x1, .f32⟩
  | .hbm, ⟨17, _⟩ => ⟨S4x4096x32x64, .f32⟩
  | .hbm, ⟨18, _⟩ => ⟨S1x1x1x64, .f32⟩
  | .hbm, ⟨19, _⟩ => ⟨S4x4096x32x64, .f32⟩
  | .hbm, ⟨20, _⟩ => ⟨S4x4096x32x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x4096x32x64, .f32⟩
  | .hbm, ⟨25, _⟩ => ⟨S4x4096x32x64, .f32⟩
  | .hbm, ⟨26, _⟩ => ⟨S1x1x1x64, .f32⟩
  | .hbm, ⟨27, _⟩ => ⟨S4x4096x32x64, .f32⟩
  | .hbm, ⟨28, _⟩ => ⟨S4x4096x32x64, .f32⟩
  | .hbm, ⟨29, _⟩ => ⟨S_, .f32⟩
  | .hbm, ⟨30, _⟩ => ⟨S4x4096x32x64, .f32⟩
  | .hbm, ⟨31, _⟩ => ⟨S4x4096x32x64, .f32⟩
  | .hbm, ⟨32, _⟩ => ⟨S4x4096x32x64, .f32⟩
  | .hbm, ⟨33, _⟩ => ⟨S4x4096x32x64, .f32⟩
  | .hbm, ⟨34, _⟩ => ⟨S_, .f32⟩
  | .hbm, ⟨35, _⟩ => ⟨S4x4096x64, .f32⟩
  | .hbm, ⟨36, _⟩ => ⟨S4x4096x1x64, .f32⟩
  | .hbm, ⟨37, _⟩ => ⟨S4x4096x32x64, .f32⟩
  | .hbm, ⟨38, _⟩ => ⟨S4x4096x32x128, .f32⟩
  | .hbm, ⟨39, _⟩ => ⟨S4x4096x32x64, .f32⟩
  | .hbm, ⟨40, _⟩ => ⟨S1x1x1x64, .f32⟩
  | .hbm, ⟨41, _⟩ => ⟨S4x4096x32x64, .f32⟩
  | .hbm, ⟨42, _⟩ => ⟨S4x4096x32x64, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4x4096x32x64, .f32⟩
  | .hbm, ⟨47, _⟩ => ⟨S4x4096x32x64, .f32⟩
  | .hbm, ⟨48, _⟩ => ⟨S1x1x1x64, .f32⟩
  | .hbm, ⟨49, _⟩ => ⟨S4x4096x32x64, .f32⟩
  | .hbm, ⟨50, _⟩ => ⟨S4x4096x32x64, .f32⟩
  | .hbm, ⟨51, _⟩ => ⟨S_, .f32⟩
  | .hbm, ⟨52, _⟩ => ⟨S4x4096x32x64, .f32⟩
  | .hbm, ⟨53, _⟩ => ⟨S4x4096x32x64, .f32⟩
  | .hbm, ⟨54, _⟩ => ⟨S4x4096x32x64, .f32⟩
  | .hbm, ⟨55, _⟩ => ⟨S1x1x1x64, .f32⟩
  | .hbm, ⟨56, _⟩ => ⟨S4x4096x32x64, .f32⟩
  | .hbm, ⟨57, _⟩ => ⟨S4x4096x32x64, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S4x4096x32x64, .f32⟩
  | .hbm, ⟨62, _⟩ => ⟨S4x4096x32x64, .f32⟩
  | .hbm, ⟨63, _⟩ => ⟨S1x1x1x64, .f32⟩
  | .hbm, ⟨64, _⟩ => ⟨S4x4096x32x64, .f32⟩
  | .hbm, ⟨65, _⟩ => ⟨S4x4096x32x64, .f32⟩
  | .hbm, ⟨66, _⟩ => ⟨S_, .f32⟩
  | .hbm, ⟨67, _⟩ => ⟨S4x4096x32x64, .f32⟩
  | .hbm, ⟨68, _⟩ => ⟨S4x4096x32x64, .f32⟩
  | .hbm, ⟨69, _⟩ => ⟨S4x4096x32x64, .f32⟩
  | .hbm, ⟨70, _⟩ => ⟨S4x4096x32x64, .f32⟩
  | .hbm, ⟨71, _⟩ => ⟨S_, .f32⟩
  | .hbm, ⟨72, _⟩ => ⟨S4x4096x64, .f32⟩
  | .hbm, ⟨73, _⟩ => ⟨S_, .i1⟩
  | .hbm, ⟨74, _⟩ => ⟨S4x4096, .i1⟩
  | .hbm, ⟨75, _⟩ => ⟨S4x4096x64, .f32⟩
  | .hbm, ⟨76, _⟩ => ⟨S1x1x64, .f32⟩
  | .hbm, ⟨77, _⟩ => ⟨S4x4096x64, .f32⟩
  | .hbm, ⟨78, _⟩ => ⟨S4x4096x64, .f32⟩
  | .hbm, ⟨79, _⟩ => ⟨S_, .f32⟩
  | .hbm, ⟨80, _⟩ => ⟨S4x4096x64, .f32⟩
  | .hbm, ⟨81, _⟩ => ⟨S4x4096x64, .f32⟩
  | .hbm, ⟨82, _⟩ => ⟨S4x4096x128, .f32⟩
  | .hbm, ⟨83, _⟩ => ⟨S1x1x128, .f32⟩
  | .hbm, ⟨84, _⟩ => ⟨S4x4096x128, .f32⟩
  | .hbm, ⟨85, _⟩ => ⟨S4x4096x128, .f32⟩
  | .hbm, ⟨86, _⟩ => ⟨S4x4096x1, .i1⟩
  | .hbm, ⟨87, _⟩ => ⟨S_, .f32⟩
  | .hbm, ⟨88, _⟩ => ⟨S4x4096x128, .f32⟩
  | .hbm, ⟨89, _⟩ => ⟨S4x4096x128, .i1⟩
  | .hbm, ⟨90, _⟩ => ⟨S4x4096x128, .f32⟩
  | _, _ => ⟨S4x4096x32x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call0_cst : Ref sig .tc := ⟨.hbm, 29, rfl⟩
abbrev main_call0_v0 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_1 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_call1_cst : Ref sig .tc := ⟨.hbm, 51, rfl⟩
abbrev main_call1_v0 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_call2_cst : Ref sig .tc := ⟨.hbm, 66, rfl⟩
abbrev main_call2_v0 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_3 : Ref sig .tc := ⟨.hbm, 71, rfl⟩
abbrev main_v46 : Ref sig .tc := ⟨.hbm, 72, rfl⟩
abbrev main_c : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_call3_cst : Ref sig .tc := ⟨.hbm, 79, rfl⟩
abbrev main_call3_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_4 : Ref sig .tc := ⟨.hbm, 87, rfl⟩
abbrev main_v58 : Ref sig .tc := ⟨.hbm, 88, rfl⟩
abbrev main_call4_v0 : Ref sig .tc := ⟨.hbm, 89, rfl⟩
abbrev main_v59 : Ref sig .tc := ⟨.hbm, 90, rfl⟩

abbrev nD : Nat := 1
abbrev τ : Topo := Topo.v7x

variable {F : FTy → Type} [FloatOps F]
-- ==== Proof.Spec.lean ====
/-
  The mathematics of the polyline encoder, away from any program: the layers as functions of one polyline's points, the
  rearrangements of sums and maxima that a blocked evaluation uses, and the law by which a normalized layer's scale moves
  from the layer's result into its weights.
-/
module

public import Idealize.ShloMosaic.PureOps.Ideal
public import Mathlib.Data.EReal.Operations
public import Mathlib.Data.EReal.Inv
public import Mathlib.Algebra.BigOperators.Fin

@[expose] public section

noncomputable section

namespace Cert.Spec

/-! ## The layers of one polyline -/

/-- A point's flag as a number. -/
def flag (b : BitVec 1) : EReal := if b = 1#1 then 1 else 0

/-- The larger of a value and zero. -/
def relu (a : EReal) : EReal := max a 0

/-- The first layer at a point and channel, zero at a point that is not marked. -/
def feat (x : Fin 32 → Fin 9 → EReal) (k : Fin 32 → EReal) (w : Fin 9 → Fin 64 → EReal) (b : Fin 64 → EReal)
    (p : Fin 32) (j : Fin 64) : EReal :=
  relu (∑ i, x p i * w i j + b j) * k p

/-- The largest value of a channel over the points. -/
def pool (f : Fin 32 → Fin 64 → EReal) (j : Fin 64) : EReal := Finset.univ.sup fun p => f p j

/-- The second layer: one matrix for the point's own channels, one for the pooled channels. -/
def hid (f : Fin 32 → Fin 64 → EReal) (wa wb : Fin 64 → Fin 64 → EReal) (b : Fin 64 → EReal)
    (p : Fin 32) (j : Fin 64) : EReal :=
  relu (∑ i, f p i * wa i j + (∑ i, pool f i * wb i j + b j))

/-- The third layer, zero at a point that is not marked. -/
def last (h : Fin 32 → Fin 64 → EReal) (k : Fin 32 → EReal) (w : Fin 64 → Fin 64 → EReal) (b : Fin 64 → EReal)
    (p : Fin 32) (j : Fin 64) : EReal :=
  relu (∑ i, h p i * w i j + b j) * k p

/-- The two output layers of a polyline's pooled channels. -/
def head (o : Fin 64 → EReal) (w : Fin 64 → Fin 64 → EReal) (b : Fin 64 → EReal) (w' : Fin 64 → Fin 128 → EReal)
    (b' : Fin 128 → EReal) (q : Fin 128) : EReal :=
  ∑ j, relu (∑ i, o i * w i j + b j) * w' j q + b' q

/-! ## Sums and maxima in blocks -/

/-- A sum against one column of a block-diagonal matrix is the sum over that column's block. -/
theorem sum_block {n A B : ℕ} (hn : n = A * B) (hB : 0 < B) (a : ℕ) (ha : a < A) (f : Fin n → EReal) (w : Fin B → EReal) :
    ∑ k : Fin n, f k * (if k.val / B = a then w ⟨k.val % B, Nat.mod_lt _ hB⟩ else 0)
      = ∑ c : Fin B, f ⟨B * a + c.val, by
          have h := c.isLt
          have h2 : B * (a + 1) ≤ B * A := Nat.mul_le_mul_left _ ha
          rw [hn, Nat.mul_comm A B]; rw [Nat.mul_add] at h2; omega⟩ * w c := by
  symm
  refine Finset.sum_of_injOn (fun c : Fin B => ⟨B * a + c.val, by
          have h := c.isLt
          have h2 : B * (a + 1) ≤ B * A := Nat.mul_le_mul_left _ ha
          rw [hn, Nat.mul_comm A B]; rw [Nat.mul_add] at h2; omega⟩) ?_ (fun _ _ => by simp) ?_ ?_
  · intro c _ d _ h
    simp only [Fin.mk.injEq] at h
    exact Fin.ext (by omega)
  · intro k _ hk
    rw [if_neg, mul_zero]
    rintro rfl
    refine hk ⟨⟨k.val % B, Nat.mod_lt _ hB⟩, by simp, Fin.ext ?_⟩
    simpa using Nat.div_add_mod k.val B
  · intro c _
    have h1 : (B * a + c.val) / B = a := by
      rw [Nat.mul_add_div hB, Nat.div_eq_of_lt c.isLt, Nat.add_zero]
    have h2 : (B * a + c.val) % B = c.val := by
      rw [Nat.mul_add_mod, Nat.mod_eq_of_lt c.isLt]
    simp only [h1, h2, if_true]

/-- The largest of `n + n` values is the largest of the `n` maxima of a value of the first half and its partner in the
    second. -/
theorem sup_halves (n : ℕ) (f : Fin (n + n) → EReal) :
    Finset.univ.sup f = Finset.univ.sup fun q : Fin n => max (f (Fin.castAdd n q)) (f (Fin.natAdd n q)) := by
  apply le_antisymm
  · refine Finset.sup_le fun k _ => ?_
    refine Fin.addCases (fun q => ?_) (fun q => ?_) k
    · exact le_trans (le_max_left _ _) (Finset.le_sup (f := fun q : Fin n => max (f (Fin.castAdd n q)) (f (Fin.natAdd n q))) (Finset.mem_univ q))
    · exact le_trans (le_max_right _ _) (Finset.le_sup (f := fun q : Fin n => max (f (Fin.castAdd n q)) (f (Fin.natAdd n q))) (Finset.mem_univ q))
  · exact Finset.sup_le fun q _ => max_le (Finset.le_sup (Finset.mem_univ _)) (Finset.le_sup (Finset.mem_univ _))

/-- The largest of 32 values by five halvings. -/
theorem sup_five (f : Fin 32 → EReal) (a : Fin 16 → EReal) (b : Fin 8 → EReal) (c : Fin 4 → EReal) (d : Fin 2 → EReal)
    (ha : ∀ q : Fin 16, a q = max (f ⟨q.val, by omega⟩) (f ⟨16 + q.val, by omega⟩))
    (hb : ∀ q : Fin 8, b q = max (a ⟨q.val, by omega⟩) (a ⟨8 + q.val, by omega⟩))
    (hc : ∀ q : Fin 4, c q = max (b ⟨q.val, by omega⟩) (b ⟨4 + q.val, by omega⟩))
    (hd : ∀ q : Fin 2, d q = max (c ⟨q.val, by omega⟩) (c ⟨2 + q.val, by omega⟩)) :
    max (d 0) (d 1) = Finset.univ.sup f := by
  have ea : (fun q : Fin 16 => max (f (Fin.castAdd 16 q)) (f (Fin.natAdd 16 q))) = a := (funext ha).symm
  have eb : (fun q : Fin 8 => max (a (Fin.castAdd 8 q)) (a (Fin.natAdd 8 q))) = b := (funext hb).symm
  have ec : (fun q : Fin 4 => max (b (Fin.castAdd 4 q)) (b (Fin.natAdd 4 q))) = c := (funext hc).symm
  have ed : (fun q : Fin 2 => max (c (Fin.castAdd 2 q)) (c (Fin.natAdd 2 q))) = d := (funext hd).symm
  rw [sup_halves 16 f, ea, sup_halves 8 a, eb, sup_halves 4 b, ec, sup_halves 2 c, ed]
  refine le_antisymm (max_le (Finset.le_sup (Finset.mem_univ _)) (Finset.le_sup (Finset.mem_univ _)))
    (Finset.sup_le fun q _ => ?_)
  rcases q with ⟨_ | _ | q, hq⟩
  · exact le_max_left _ _
  · exact le_max_right _ _
  · omega

end Cert.Spec

end
-- ==== Proof.Body.lean ====
module

public import Idealize.ShloMosaic.Lib.Pipeline.ValueKit
public import Idealize.ShloMosaic.Lib.Pointwise
public import proofs.«01_k».proof.Proof.Gen.KernelIdeal.Frame
public import proofs.«01_k».proof.Proof.Spec

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-- Lane `64 p + j` of a row of 32 points of 64 channels. -/
def lane (p : Fin 32) (j : Fin 64) : Fin 2048 := ⟨64 * p.val + j.val, by omega⟩

/-- The point of a lane. -/
theorem lane_div (p : Fin 32) (j : Fin 64) : (lane p j).val / 64 = p.val := by
  simp only [lane]; omega

/-- The channel of a lane. -/
theorem lane_mod (p : Fin 32) (j : Fin 64) (h : (lane p j).val % 64 < 64) : (⟨(lane p j).val % 64, h⟩ : Fin 64) = j :=
  Fin.ext (by simp only [lane]; omega)

/-! ## The pieces the body is made of -/

/-- Eight products, one per group of 256 lanes (four points), each against the same matrix, side by side. -/
def groups (v : FVec Ideal S2048x2048 .bf16) (k : FVec Ideal S256x256 .bf16) : FVec Ideal S2048x2048 .f32 :=
  concatenate S2048x2048 1 [
    ⟨S2048x256, matmul dot_S2048x256_S256x256_S2048x256_1_0_0_1_n_n none (extractStridedSlice S2048x256 ![0, 0] v slices_S2048x2048_o0_0_S2048x256) k (constant S2048x256 .f32 0x00000000#32)⟩,
    ⟨S2048x256, matmul dot_S2048x256_S256x256_S2048x256_1_0_0_1_n_n none (extractStridedSlice S2048x256 ![0, 256] v slices_S2048x2048_o0_256_S2048x256) k (constant S2048x256 .f32 0x00000000#32)⟩,
    ⟨S2048x256, matmul dot_S2048x256_S256x256_S2048x256_1_0_0_1_n_n none (extractStridedSlice S2048x256 ![0, 512] v slices_S2048x2048_o0_512_S2048x256) k (constant S2048x256 .f32 0x00000000#32)⟩,
    ⟨S2048x256, matmul dot_S2048x256_S256x256_S2048x256_1_0_0_1_n_n none (extractStridedSlice S2048x256 ![0, 768] v slices_S2048x2048_o0_768_S2048x256) k (constant S2048x256 .f32 0x00000000#32)⟩,
    ⟨S2048x256, matmul dot_S2048x256_S256x256_S2048x256_1_0_0_1_n_n none (extractStridedSlice S2048x256 ![0, 1024] v slices_S2048x2048_o0_1024_S2048x256) k (constant S2048x256 .f32 0x00000000#32)⟩,
    ⟨S2048x256, matmul dot_S2048x256_S256x256_S2048x256_1_0_0_1_n_n none (extractStridedSlice S2048x256 ![0, 1280] v slices_S2048x2048_o0_1280_S2048x256) k (constant S2048x256 .f32 0x00000000#32)⟩,
    ⟨S2048x256, matmul dot_S2048x256_S256x256_S2048x256_1_0_0_1_n_n none (extractStridedSlice S2048x256 ![0, 1536] v slices_S2048x2048_o0_1536_S2048x256) k (constant S2048x256 .f32 0x00000000#32)⟩,
    ⟨S2048x256, matmul dot_S2048x256_S256x256_S2048x256_1_0_0_1_n_n none (extractStridedSlice S2048x256 ![0, 1792] v slices_S2048x2048_o0_1792_S2048x256) k (constant S2048x256 .f32 0x00000000#32)⟩]
    concatenates_S2048x256_S2048x256_S2048x256_S2048x256_S2048x256_S2048x256_S2048x256_S2048x256_S2048x2048_d1

/-- A row of 64 channels repeated for each of the 32 points, by five doublings. -/
def spread (u : FVec Ideal S2048x64 .f32) : FVec Ideal S2048x2048 .f32 :=
  have u1 : FVec Ideal S2048x128 .f32 := concatenate S2048x128 1 [⟨S2048x64, u⟩, ⟨S2048x64, u⟩] concatenates_S2048x64_S2048x64_S2048x128_d1
  have u2 : FVec Ideal S2048x256 .f32 := concatenate S2048x256 1 [⟨S2048x128, u1⟩, ⟨S2048x128, u1⟩] concatenates_S2048x128_S2048x128_S2048x256_d1
  have u3 : FVec Ideal S2048x512 .f32 := concatenate S2048x512 1 [⟨S2048x256, u2⟩, ⟨S2048x256, u2⟩] concatenates_S2048x256_S2048x256_S2048x512_d1
  have u4 : FVec Ideal S2048x1024 .f32 := concatenate S2048x1024 1 [⟨S2048x512, u3⟩, ⟨S2048x512, u3⟩] concatenates_S2048x512_S2048x512_S2048x1024_d1
  have u5 : FVec Ideal S2048x2048 .f32 := concatenate S2048x2048 1 [⟨S2048x1024, u4⟩, ⟨S2048x1024, u4⟩] concatenates_S2048x1024_S2048x1024_S2048x2048_d1
  u5

/-- The largest value of each channel over the 32 points of a row, by five halvings. -/
def halve (v : FVec Ideal S2048x2048 .bf16) : FVec Ideal S2048x64 .bf16 :=
  have v1 : FVec Ideal S2048x1024 .bf16 := maximumf (extractStridedSlice S2048x1024 ![0, 0] v slices_S2048x2048_o0_0_S2048x1024) (extractStridedSlice S2048x1024 ![0, 1024] v slices_S2048x2048_o0_1024_S2048x1024)
  have v2 : FVec Ideal S2048x512 .bf16 := maximumf (extractStridedSlice S2048x512 ![0, 0] v1 slices_S2048x1024_o0_0_S2048x512) (extractStridedSlice S2048x512 ![0, 512] v1 slices_S2048x1024_o0_512_S2048x512)
  have v3 : FVec Ideal S2048x256 .bf16 := maximumf (extractStridedSlice S2048x256 ![0, 0] v2 slices_S2048x512_o0_0_S2048x256) (extractStridedSlice S2048x256 ![0, 256] v2 slices_S2048x512_o0_256_S2048x256)
  have v4 : FVec Ideal S2048x128 .bf16 := maximumf (extractStridedSlice S2048x128 ![0, 0] v3 slices_S2048x256_o0_0_S2048x128) (extractStridedSlice S2048x128 ![0, 128] v3 slices_S2048x256_o0_128_S2048x128)
  have v5 : FVec Ideal S2048x64 .bf16 := maximumf (extractStridedSlice S2048x64 ![0, 0] v4 slices_S2048x128_o0_0_S2048x64) (extractStridedSlice S2048x64 ![0, 64] v4 slices_S2048x128_o0_64_S2048x64)
  v5

/-- The eight grouped products, read at a lane: the row of the lane's group times the shared weight. -/
theorem groups_apply (v : FVec Ideal S2048x2048 .bf16) (k : FVec Ideal S256x256 .bf16) (r : Fin 2048) (l : Fin 2048) :
    groups v k (ix2 r l) = ∑ i : Fin 256, v (ix2 r ⟨256 * (l.val / 256) + i.val, by omega⟩) * k (ix2 i ⟨l.val % 256, by omega⟩) := by
  pointwise [groups]
  split_ifs <;> refine Finset.sum_congr rfl fun i _ => ?_ <;> congr 3 <;> refine Fin.ext ?_ <;> simp only <;> omega

/-- A row of channels repeated over the points, read at a lane. -/
theorem spread_apply (u : FVec Ideal S2048x64 .f32) (r : Fin 2048) (l : Fin 2048) :
    spread u (ix2 r l) = u (ix2 r ⟨l.val % 64, by omega⟩) := by
  pointwise [spread]
  split_ifs <;> congr 2 <;> refine Fin.ext ?_ <;> simp only <;> omega

/-- The halving maximum, read at a channel: the greatest entry over the points. -/
theorem halve_apply (v : FVec Ideal S2048x2048 .bf16) (r : Fin 2048) (j : Fin 64) :
    halve v (ix2 r j) = pool (fun p j => v (ix2 r (lane p j))) j := by
  pointwise [halve]
  refine Eq.trans ?_ (sup_five (fun p => v (ix2 r (lane p j))) _ _ _ _ (fun _ => rfl) (fun _ => rfl) (fun _ => rfl)
    (fun _ => rfl))
  repeat' refine congrArg₂ max ?_ ?_
  all_goals
    refine congrArg (fun l => v (ix2 r l)) (Fin.ext ?_)
    simp only [lane, Fin.val_zero, Fin.val_one]
    try omega

/-- A mask word as a number: zero for the zero word, one for any other. -/
def mark (w : BitVec 32) : EReal := if w = 0#32 then 0 else 1

/-- The bit that says whether a word differs from zero, made a float, is the word's mark. -/
theorem mark_eq (w : BitVec 32) :
    (FloatOps.sitofp FTy.f32 (BitVec.setWidth 32 (IntOp.cmpi CmpIPredicate.ne w 0#32)) : Ideal .f32) = mark w := by
  by_cases h : w = 0#32
  · simp [mark, h, IntOp.cmpi, FloatOps.sitofp]
  · have h1 : (w != 0#32) = true := by simpa using h
    simp [mark, h, h1, IntOp.cmpi, FloatOps.sitofp]

/-- The mask of a row's points, spread over their channels. -/
theorem pay2_apply (v2 : Vec Ideal S2048x32 .i32) (v8 : Vec Ideal S32x2048 .bf16)
    (hew : ∀ (q : Fin 32) (l : Fin 2048), v8 (ix2 q l) = if l.val / 64 = q.val then (1 : EReal) else 0)
    (r : Fin 2048) (p : Fin 32) (j : Fin 64) : k0_pay2 v2 v8 (ix2 r (lane p j)) = mark (v2 (ix2 r p)) := by
  pointwise [k0_pay2]
  simp only [mark_eq, hew, lane_div]
  rw [Finset.sum_eq_single p]
  · rw [if_pos rfl, mul_one]
  · intro q _ hq
    rw [if_neg, mul_zero]
    intro h
    exact hq (Fin.ext h.symm)
  · intro h
    exact absurd (Finset.mem_univ _) h

/-- The first layer's channels of a row's points. -/
theorem pay3_apply (v0 : Vec Ideal S2048x288 .bf16) (v2 : Vec Ideal S2048x32 .i32) (v8 : Vec Ideal S32x2048 .bf16)
    (v13 : Vec Ideal S144x1024 .bf16) (v21 : Vec Ideal S1x2048 .f32) (w : Fin 9 → Fin 64 → EReal) (b : Fin 64 → EReal)
    (hew : ∀ (q : Fin 32) (l : Fin 2048), v8 (ix2 q l) = if l.val / 64 = q.val then (1 : EReal) else 0)
    (hw : ∀ (k : Fin 144) (l : Fin 1024), v13 (ix2 k l) =
      if k.val / 9 = l.val / 64 then w ⟨k.val % 9, by omega⟩ ⟨l.val % 64, by omega⟩ else 0)
    (hb : ∀ l : Fin 2048, v21 (ix2 0 l) = b ⟨l.val % 64, by omega⟩)
    (r : Fin 2048) (p : Fin 32) (j : Fin 64) :
    k0_pay3 v0 v2 v8 v13 v13 v21 (ix2 r (lane p j)) =
      feat (fun p i => v0 (ix2 r ⟨9 * p.val + i.val, by omega⟩)) (fun p => mark (v2 (ix2 r p))) w b p j := by
  pointwise [k0_pay3]
  rw [pay2_apply v2 v8 hew, hb, lane_mod]
  refine congrArg₂ (· * ·) (congrArg₂ max (congrArg₂ (· + ·) ?_ rfl) rfl) rfl
  by_cases h : (lane p j).val < 1024
  · rw [dif_pos h]
    simp only [hw, lane_div, lane_mod]
    exact sum_block (A := 16) (B := 9) (by decide) (by decide) p.val (by simp only [lane] at h; omega)
      (fun k : Fin 144 => v0 (ix2 r ⟨k.val, by omega⟩)) (fun c => w c j)
  · rw [dif_neg h]
    have h1 : ((lane p j).val - 1024) / 64 = p.val - 16 := by simp only [lane]; omega
    have h2 : ∀ hq, (⟨((lane p j).val - 1024) % 64, hq⟩ : Fin 64) = j := fun _ =>
      Fin.ext (by simp only [lane] at h ⊢; omega)
    simp only [hw, h1, h2]
    refine (sum_block (A := 16) (B := 9) (by decide) (by decide) (p.val - 16) (by omega)
      (fun k : Fin 144 => v0 (ix2 r ⟨144 + k.val, by omega⟩)) (fun c => w c j)).trans (Finset.sum_congr rfl fun c _ => ?_)
    refine congrArg (fun l => v0 (ix2 r l) * w c j) (Fin.ext ?_)
    simp only [lane] at h ⊢
    omega

/-- The products in groups of four points, against a matrix of four equal blocks. -/
theorem groups_point (v : FVec Ideal S2048x2048 .bf16) (k : FVec Ideal S256x256 .bf16) (w : Fin 64 → Fin 64 → EReal)
    (hk : ∀ i l : Fin 256, k (ix2 i l) =
      if i.val / 64 = l.val / 64 then w ⟨i.val % 64, by omega⟩ ⟨l.val % 64, by omega⟩ else 0)
    (r : Fin 2048) (p : Fin 32) (j : Fin 64) :
    groups v k (ix2 r (lane p j)) = ∑ i, v (ix2 r (lane p i)) * w i j := by
  rw [groups_apply]
  have h1 : ∀ hq, (⟨(lane p j).val % 256 % 64, hq⟩ : Fin 64) = j := fun _ => Fin.ext (by simp only [lane]; omega)
  simp only [hk, h1]
  refine (sum_block (A := 4) (B := 64) (by decide) (by decide) ((lane p j).val % 256 / 64) (by omega)
    (fun i : Fin 256 => v (ix2 r ⟨256 * ((lane p j).val / 256) + i.val, by omega⟩)) (fun c => w c j)).trans
    (Finset.sum_congr rfl fun c _ => ?_)
  refine congrArg (fun l => v (ix2 r l) * w c j) (Fin.ext ?_)
  simp only [lane]
  omega

/-- The second layer's channels, from the first layer's and their pooled row. -/
theorem pay6_apply (v0 : Vec Ideal S2048x288 .bf16) (v2 : Vec Ideal S2048x32 .i32) (v8 : Vec Ideal S32x2048 .bf16)
    (v13 : Vec Ideal S144x1024 .bf16) (v21 : Vec Ideal S1x2048 .f32) (v44 : Vec Ideal S256x256 .bf16)
    (v63 : Vec Ideal S64x64 .bf16) (v66 : Vec Ideal S1x64 .f32) (w : Fin 64 → Fin 64 → EReal)
    (hk : ∀ i l : Fin 256, v44 (ix2 i l) =
      if i.val / 64 = l.val / 64 then w ⟨i.val % 64, by omega⟩ ⟨l.val % 64, by omega⟩ else 0)
    (r : Fin 2048) (p : Fin 32) (j : Fin 64) :
    k0_pay6 (k0_pay3 v0 v2 v8 v13 v13 v21) (k0_pay4 v0 v2 v8 v13 v13 v21) (k0_pay5 v0 v2 v8 v13 v13 v21) v44 v63 v66
        (ix2 r (lane p j)) =
      hid (fun p i => k0_pay3 v0 v2 v8 v13 v13 v21 (ix2 r (lane p i))) w (fun i j => v63 (ix2 i j))
        (fun j => v66 (ix2 0 j)) p j := by
  have e : k0_pay6 (k0_pay3 v0 v2 v8 v13 v13 v21) (k0_pay4 v0 v2 v8 v13 v13 v21) (k0_pay5 v0 v2 v8 v13 v13 v21) v44 v63 v66
      = truncf .bf16 (maximumf (addf (groups (k0_pay3 v0 v2 v8 v13 v13 v21) (shapeCast S256x256 v44 shapeCasts_S256x256_S256x256))
          (spread (addf (matmul dot_S2048x64_S64x64_S2048x64_1_0_0_1_n_n none (halve (k0_pay3 v0 v2 v8 v13 v13 v21))
            (shapeCast S64x64 v63 shapeCasts_S64x64_S64x64) (constant S2048x64 .f32 0x00000000#32))
            (broadcastTo S2048x64 (shapeCast S1x64 v66 shapeCasts_S1x64_S1x64) broadcasts_S1x64_S2048x64))))
          (broadcast S2048x2048 (Scalar.ofBits .f32 0x00000000#32))) bitsLt_bf16_f32 := rfl
  rw [e]
  pointwise
  rw [groups_point _ _ w (fun i l => by pointwise; exact hk i l), spread_apply, lane_mod]
  pointwise
  simp only [halve_apply]
  rfl

/-- The third layer's channels pooled over a row's points. -/
theorem pay9_apply (v11 v78 : FVec Ideal S2048x2048 .bf16) (v79 : Vec Ideal S256x256 .bf16) (v98 : Vec Ideal S1x2048 .f32)
    (k : Fin 32 → EReal) (w : Fin 64 → Fin 64 → EReal) (b : Fin 64 → EReal) (r : Fin 2048)
    (hm : ∀ (p : Fin 32) (j : Fin 64), v11 (ix2 r (lane p j)) = k p)
    (hk : ∀ i l : Fin 256, v79 (ix2 i l) =
      if i.val / 64 = l.val / 64 then w ⟨i.val % 64, by omega⟩ ⟨l.val % 64, by omega⟩ else 0)
    (hb : ∀ l : Fin 2048, v98 (ix2 0 l) = b ⟨l.val % 64, by omega⟩) (j : Fin 64) :
    k0_pay9 v11 v78 (k0_pay7 v79)
        (matmul dot_S2048x256_S256x256_S2048x256_1_0_0_1_n_n none
          (extractStridedSlice S2048x256 ![0, 0] v78 slices_S2048x2048_o0_0_S2048x256) (k0_pay7 v79)
          (constant S2048x256 .f32 0x00000000#32)) v98 (ix2 r j) =
      pool (last (fun p i => v78 (ix2 r (lane p i))) k w b) j := by
  have e : k0_pay9 v11 v78 (k0_pay7 v79)
        (matmul dot_S2048x256_S256x256_S2048x256_1_0_0_1_n_n none
          (extractStridedSlice S2048x256 ![0, 0] v78 slices_S2048x2048_o0_0_S2048x256) (k0_pay7 v79)
          (constant S2048x256 .f32 0x00000000#32)) v98
      = extf .f32 (halve (mulf (truncf .bf16 (maximumf (addf (groups v78 (k0_pay7 v79))
          (broadcastTo S2048x2048 (shapeCast S1x2048 v98 shapeCasts_S1x2048_S1x2048) broadcasts_S1x2048_S2048x2048))
          (broadcast S2048x2048 (Scalar.ofBits .f32 0x00000000#32))) bitsLt_bf16_f32) v11)) bitsLt_bf16_f32 := rfl
  rw [e]
  pointwise
  rw [halve_apply]
  refine congrArg (fun f => pool f j) (funext fun p => funext fun i => ?_)
  pointwise
  rw [groups_point _ _ w (fun i l => by pointwise [k0_pay7]; exact hk i l), hm, hb, lane_mod]
  rfl

/-- The last step: the output layers of a row with a marked point, zero elsewhere. -/
theorem pay1_apply (v121 : FVec Ideal S2048x64 .f32) (v122 : Vec Ideal S2048x32 .i32) (v142 : Vec Ideal S64x64 .f32)
    (v144 : Vec Ideal S1x64 .f32) (v150 : Vec Ideal S64x128 .f32) (v152 : Vec Ideal S1x128 .f32) (r : Fin 2048) (q : Fin 128) :
    k0_pay1 v121 (k0_pay10 v122) v142 v144 v150 v152 (ix2 r q) =
      if 0 < Finset.univ.sup (fun p : Fin 32 => mark (v122 (ix2 r p))) then
        head (fun j => v121 (ix2 r j)) (fun i j => v142 (ix2 i j)) (fun j => v144 (ix2 0 j)) (fun j q => v150 (ix2 j q))
          (fun q => v152 (ix2 0 q)) q
      else 0 := by
  rw [← sup_five (fun p : Fin 32 => mark (v122 (ix2 r p))) (fun q => k0_pay10 v122 (ix2 r q)) _ _ _
    (fun q => by pointwise [k0_pay10]; simp only [mark_eq]) (fun _ => rfl) (fun _ => rfl) (fun _ => rfl)]
  pointwise [k0_pay1]
  rfl

end Cert.KernelIdeal.Value

end
-- ==== Proof.Scale.lean ====
/-
  The law of a normalized layer's scale: over finite values, a layer whose sums are multiplied by a channel's scale and
  divided by the square root of the variance is the layer whose weights carry that scale. With the law, the whole encoder
  evaluated either way.
-/
module

public import Idealize.ShloMosaic.Lib.IdealHost
public import proofs.«01_k».proof.Proof.Spec

@[expose] public section

noncomputable section

namespace Cert.Spec

open Idealize.ShloMosaic

/-! ## Finite values -/

/-- A value that is neither infinity. -/
def Finite (a : EReal) : Prop := ∃ r : ℝ, a = (r : EReal)

/-- A sum of two real numbers is a real number. -/
theorem Finite.add {a b : EReal} (ha : Finite a) (hb : Finite b) : Finite (a + b) := by
  obtain ⟨r, rfl⟩ := ha
  obtain ⟨s, rfl⟩ := hb
  exact ⟨r + s, (EReal.coe_add r s).symm⟩

/-- A product of two real numbers is a real number. -/
theorem Finite.mul {a b : EReal} (ha : Finite a) (hb : Finite b) : Finite (a * b) := by
  obtain ⟨r, rfl⟩ := ha
  obtain ⟨s, rfl⟩ := hb
  exact ⟨r * s, (EReal.coe_mul r s).symm⟩

/-- Zero is a real number. -/
theorem finite_zero : Finite 0 := ⟨0, EReal.coe_zero.symm⟩

/-- The greater of two real numbers is a real number. -/
theorem Finite.max {a b : EReal} (ha : Finite a) (hb : Finite b) : Finite (max a b) := by
  rcases max_choice a b with h | h
  · rw [h]; exact ha
  · rw [h]; exact hb

/-- The positive part of a real number is a real number. -/
theorem Finite.relu {a : EReal} (ha : Finite a) : Finite (relu a) := ha.max finite_zero

/-- A finite sum of real numbers is a real number. -/
theorem Finite.sum {n : ℕ} {f : Fin n → EReal} (hf : ∀ i, Finite (f i)) : Finite (∑ i, f i) := by
  choose r hr using hf
  refine ⟨∑ i, r i, ?_⟩
  rw [Finset.sum_congr rfl fun i _ => hr i]
  exact (map_sum (⟨⟨Real.toEReal, EReal.coe_zero⟩, EReal.coe_add⟩ : ℝ →+ EReal) r _).symm

/-- A flag is a real number. -/
theorem finite_flag (b : BitVec 1) : Finite (flag b) := by
  unfold flag
  split_ifs
  · exact ⟨1, EReal.coe_one.symm⟩
  · exact finite_zero

/-- The greatest of a polyline's real numbers is a real number. -/
theorem finite_pool {f : Fin 32 → Fin 64 → EReal} (hf : ∀ p j, Finite (f p j)) (j : Fin 64) : Finite (pool f j) := by
  obtain ⟨p, _, hp⟩ := Finset.exists_mem_eq_sup (Finset.univ : Finset (Fin 32)) ⟨0, Finset.mem_univ _⟩ (fun p => f p j)
  unfold pool
  rw [hp]
  exact hf p j

/-! ## The square root of the variance, and a scale folded into the weights -/

/-- The square root both programs divide by. -/
def den : EReal := Ideal.sqrt (Ideal.ofBits .f32 0x3F800054#32)

/-- The denominator is a real number other than zero. -/
theorem den_real : ∃ d : ℝ, d ≠ 0 ∧ den = (d : EReal) := by
  have h : Ideal.ofBits .f32 0x3F800054#32 = ((8388692 / 8388608 : ℝ) : EReal) := by
    simp [Ideal.ofBits, Ideal.ieee, -EReal.coe_mul]
    norm_num
  refine ⟨Real.sqrt (8388692 / 8388608), (Real.sqrt_pos.2 (by norm_num)).ne', ?_⟩
  rw [den, h, Ideal.sqrt_coe, if_neg (by norm_num)]

/-- A channel's scale divided by the square root of the variance. -/
def scale (g : EReal) : EReal := g * Ideal.div 1 den

/-- The scale of a real number is a real number. -/
theorem finite_scale {g : EReal} (hg : Finite g) : Finite (scale g) := by
  obtain ⟨d, h0, hd⟩ := den_real
  refine hg.mul ?_
  rw [hd, Ideal.div_coe h0, one_mul]
  exact ⟨_, rfl⟩

/-- The scale of a sum of products is carried by the second factors. -/
theorem scale_sum {n : ℕ} {g : EReal} {x w : Fin n → EReal} (hg : Finite g) (hx : ∀ i, Finite (x i))
    (hw : ∀ i, Finite (w i)) : Ideal.div (g * ∑ i, x i * w i) den = ∑ i, x i * (w i * scale g) := by
  obtain ⟨d, h0, hd⟩ := den_real
  obtain ⟨g, rfl⟩ := hg
  choose x' hx' using hx
  choose w' hw' using hw
  obtain rfl : x = fun i => (x' i : EReal) := funext hx'
  obtain rfl : w = fun i => (w' i : EReal) := funext hw'
  have hs (f : Fin n → ℝ) : ∑ i, (f i : EReal) = ((∑ i, f i : ℝ) : EReal) :=
    (map_sum (⟨⟨Real.toEReal, EReal.coe_zero⟩, EReal.coe_add⟩ : ℝ →+ EReal) f _).symm
  rw [scale, hd, Ideal.div_coe h0, Ideal.div_coe h0, one_mul]
  simp only [← EReal.coe_mul, hs]
  congr 1
  rw [Finset.mul_sum, Finset.sum_mul]
  exact Finset.sum_congr rfl fun i _ => by ring

/-- The same for two sums added up. -/
theorem scale_add {g a b : EReal} (hg : Finite g) (ha : Finite a) (hb : Finite b) :
    Ideal.div (g * (a + b)) den = Ideal.div (g * a) den + Ideal.div (g * b) den := by
  obtain ⟨d, h0, hd⟩ := den_real
  obtain ⟨g, rfl⟩ := hg
  obtain ⟨a, rfl⟩ := ha
  obtain ⟨b, rfl⟩ := hb
  rw [hd, Ideal.div_coe h0, Ideal.div_coe h0, Ideal.div_coe h0]
  simp only [← EReal.coe_mul, ← EReal.coe_add]
  congr 1
  ring

/-! ## The encoder, with the scales outside the sums and inside the weights -/

/-- A normalized layer's value from its sum: scaled, divided by the square root of the variance, offset, cut at zero. -/
def norm (g b s : EReal) : EReal := relu (Ideal.div (g * s) den + b)

/-- The rows of the second layer's matrix that meet a point's own channels. -/
def lower (i : Fin 64) : Fin 128 := ⟨i.val, by omega⟩

/-- The rows of the second layer's matrix that meet the pooled channels. -/
def upper (i : Fin 64) : Fin 128 := ⟨64 + i.val, by omega⟩

/-- The pooled channels of a polyline, the scales applied to the sums. -/
def pooled (x : Fin 32 → Fin 9 → EReal) (k : Fin 32 → EReal) (w : Fin 9 → Fin 64 → EReal) (g b : Fin 64 → EReal)
    (wa wb : Fin 64 → Fin 64 → EReal) (g1 b1 : Fin 64 → EReal) (w2 : Fin 64 → Fin 64 → EReal) (g2 b2 : Fin 64 → EReal) :
    Fin 64 → EReal :=
  let f := fun p j => norm (g j) (b j) (∑ i, x p i * w i j) * k p
  let h := fun p j => norm (g1 j) (b1 j) (∑ i, f p i * wa i j + ∑ i, pool f i * wb i j)
  pool fun p j => norm (g2 j) (b2 j) (∑ i, h p i * w2 i j) * k p

/-- The encoder's result for a polyline: the output layers of its pooled channels, zero for a polyline without a point. -/
def encode (x : Fin 32 → Fin 9 → EReal) (k : Fin 32 → BitVec 1) (w : Fin 9 → Fin 64 → EReal) (g b : Fin 64 → EReal)
    (w1 : Fin 128 → Fin 64 → EReal) (g1 b1 : Fin 64 → EReal) (w2 : Fin 64 → Fin 64 → EReal) (g2 b2 : Fin 64 → EReal)
    (v : Fin 64 → Fin 64 → EReal) (a : Fin 64 → EReal) (v' : Fin 64 → Fin 128 → EReal) (a' : Fin 128 → EReal)
    (q : Fin 128) : EReal :=
  open Classical in
  if ∃ p, k p = 1#1 then
    head (pooled x (fun p => flag (k p)) w g b (fun i => w1 (lower i)) (fun i => w1 (upper i)) g1 b1 w2 g2 b2) v a v' a' q
  else 0

/-- Weights that carry their column's scale. -/
def folded {n : ℕ} (w : Fin n → Fin 64 → EReal) (g : Fin 64 → EReal) (i : Fin n) (j : Fin 64) : EReal := w i j * scale (g j)

/-- The pooled channels with the scales folded into the weights are those with the scales on the sums. -/
theorem pooled_folded {x : Fin 32 → Fin 9 → EReal} {k : Fin 32 → EReal} {w : Fin 9 → Fin 64 → EReal}
    {g b : Fin 64 → EReal} {wa wb : Fin 64 → Fin 64 → EReal} {g1 b1 : Fin 64 → EReal} {w2 : Fin 64 → Fin 64 → EReal}
    {g2 : Fin 64 → EReal} (b2 : Fin 64 → EReal)
    (hx : ∀ p i, Finite (x p i)) (hk : ∀ p, Finite (k p)) (hw : ∀ i j, Finite (w i j)) (hg : ∀ j, Finite (g j))
    (hb : ∀ j, Finite (b j)) (hwa : ∀ i j, Finite (wa i j)) (hwb : ∀ i j, Finite (wb i j)) (hg1 : ∀ j, Finite (g1 j))
    (hb1 : ∀ j, Finite (b1 j)) (hw2 : ∀ i j, Finite (w2 i j)) (hg2 : ∀ j, Finite (g2 j)) :
    pool (last (hid (feat x k (folded w g) b) (folded wa g1) (folded wb g1) b1) k (folded w2 g2) b2)
      = pooled x k w g b wa wb g1 b1 w2 g2 b2 := by
  have ff : ∀ p j, Finite (feat x k (folded w g) b p j) := fun p j =>
    ((Finite.sum fun i => (hx p i).mul ((hw i j).mul (finite_scale (hg j)))).add (hb j)).relu.mul (hk p)
  have ef : feat x k (folded w g) b = fun p j => norm (g j) (b j) (∑ i, x p i * w i j) * k p := by
    funext p j
    rw [feat, norm, scale_sum (hg j) (hx p) (fun i => hw i j)]
    rfl
  have fp := finite_pool ff
  have fh : ∀ p j, Finite (hid (feat x k (folded w g) b) (folded wa g1) (folded wb g1) b1 p j) := fun p j =>
    ((Finite.sum fun i => (ff p i).mul ((hwa i j).mul (finite_scale (hg1 j)))).add
      ((Finite.sum fun i => (fp i).mul ((hwb i j).mul (finite_scale (hg1 j)))).add (hb1 j))).relu
  have eh : hid (feat x k (folded w g) b) (folded wa g1) (folded wb g1) b1 = fun p j =>
      norm (g1 j) (b1 j) (∑ i, feat x k (folded w g) b p i * wa i j + ∑ i, pool (feat x k (folded w g) b) i * wb i j) := by
    funext p j
    rw [hid, norm, scale_add (hg1 j) (Finite.sum fun i => (ff p i).mul (hwa i j)) (Finite.sum fun i => (fp i).mul (hwb i j)),
      scale_sum (hg1 j) (ff p) (fun i => hwa i j), scale_sum (hg1 j) fp (fun i => hwb i j), add_assoc]
    rfl
  have el : last (hid (feat x k (folded w g) b) (folded wa g1) (folded wb g1) b1) k (folded w2 g2) b2 = fun p j =>
      norm (g2 j) (b2 j) (∑ i, hid (feat x k (folded w g) b) (folded wa g1) (folded wb g1) b1 p i * w2 i j) * k p := by
    funext p j
    rw [last, norm, scale_sum (hg2 j) (fh p) (fun i => hw2 i j)]
    rfl
  rw [el, eh, ef]
  rfl

/-- The encoder's result with the scales folded into the weights. -/
def encodeFolded (x : Fin 32 → Fin 9 → EReal) (k : Fin 32 → BitVec 1) (w : Fin 9 → Fin 64 → EReal) (g b : Fin 64 → EReal)
    (w1 : Fin 128 → Fin 64 → EReal) (g1 b1 : Fin 64 → EReal) (w2 : Fin 64 → Fin 64 → EReal) (g2 b2 : Fin 64 → EReal)
    (v : Fin 64 → Fin 64 → EReal) (a : Fin 64 → EReal) (v' : Fin 64 → Fin 128 → EReal) (a' : Fin 128 → EReal)
    (q : Fin 128) : EReal :=
  if 0 < Finset.univ.sup (fun p => flag (k p)) then
    head (pool (last (hid (feat x (fun p => flag (k p)) (folded w g) b) (folded (fun i => w1 (lower i)) g1)
      (folded (fun i => w1 (upper i)) g1) b1) (fun p => flag (k p)) (folded w2 g2) b2)) v a v' a' q
  else 0

/-- The largest flag is positive exactly when a point is marked. -/
theorem sup_flag (k : Fin 32 → BitVec 1) : 0 < Finset.univ.sup (fun p => flag (k p)) ↔ ∃ p, k p = 1#1 := by
  rw [Finset.lt_sup_iff]
  constructor
  · rintro ⟨p, _, h⟩
    refine ⟨p, ?_⟩
    by_contra hn
    rw [flag, if_neg hn] at h
    exact lt_irrefl _ h
  · rintro ⟨p, h⟩
    refine ⟨p, Finset.mem_univ p, ?_⟩
    rw [flag, if_pos h]
    exact zero_lt_one

/-- Over finite values the encoder's result is the same with the scales on the sums or in the weights. -/
theorem encode_folded {x : Fin 32 → Fin 9 → EReal} (k : Fin 32 → BitVec 1) {w : Fin 9 → Fin 64 → EReal}
    {g b : Fin 64 → EReal} {w1 : Fin 128 → Fin 64 → EReal} {g1 b1 : Fin 64 → EReal} {w2 : Fin 64 → Fin 64 → EReal}
    {g2 : Fin 64 → EReal} (b2 : Fin 64 → EReal) (v : Fin 64 → Fin 64 → EReal) (a : Fin 64 → EReal)
    (v' : Fin 64 → Fin 128 → EReal) (a' : Fin 128 → EReal)
    (hx : ∀ p i, Finite (x p i)) (hw : ∀ i j, Finite (w i j)) (hg : ∀ j, Finite (g j)) (hb : ∀ j, Finite (b j))
    (hw1 : ∀ i j, Finite (w1 i j)) (hg1 : ∀ j, Finite (g1 j)) (hb1 : ∀ j, Finite (b1 j)) (hw2 : ∀ i j, Finite (w2 i j))
    (hg2 : ∀ j, Finite (g2 j)) (q : Fin 128) :
    encodeFolded x k w g b w1 g1 b1 w2 g2 b2 v a v' a' q = encode x k w g b w1 g1 b1 w2 g2 b2 v a v' a' q := by
  rw [encodeFolded, encode, pooled_folded b2 hx (fun p => finite_flag (k p)) hw hg hb (fun i => hw1 (lower i))
    (fun i => hw1 (upper i)) hg1 hb1 hw2 hg2]
  exact if_congr (sup_flag k) rfl rfl

end Cert.Spec

end
-- ==== Proof.Host.lean ====
/-
  What the kernel's windows read: every array the host lays out before the region, at an index, from the arguments. The
  matrices of the region are block diagonal with one scaled weight matrix on the diagonal; the offsets are repeated along the
  lanes; the points and their flags are laid out as rows.
-/
module

public import Idealize.ShloMosaic.Lib.Pipeline.ValueKit
public import Idealize.ShloMosaic.Lib.Pointwise
public import Idealize.ShloMosaic.Lib.StableHlo.RunRead
public import proofs.«01_k».proof.Proof.Gen.KernelIdeal.Frame
public import proofs.«01_k».proof.Proof.Scale

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-! ## Scalars of the layout -/

/-- The factor the host folds into a channel's scale. -/
theorem inv_eq : (id (Host.divf (constant (F := Ideal) S_ .f32 1065353216#32) (Host.sqrt (constant S_ .f32 1065353300#32))) ix0 : Ideal .f32)
    = Ideal.div 1 den := by
  show Ideal.div (Ideal.ofBits .f32 1065353216#32) den = _
  rw [show Ideal.ofBits .f32 1065353216#32 = (1 : EReal) from Ideal.ofBits_one_f32]

/-- An entry of the identity matrix, from its row and column. -/
theorem eye_eq {a b : ℕ} (ha : a < 2 ^ 32) (hb : b < 2 ^ 32) :
    (FloatOps.uitofp FTy.bf16 (IntOp.cmpi .eq (IntOp.addi (BitVec.ofNat 32 a) 0#32) (BitVec.ofNat 32 b)) : Ideal .bf16)
      = if a = b then (1 : EReal) else 0 := by
  have h : (BitVec.ofNat 32 a = BitVec.ofNat 32 b) ↔ a = b := by
    constructor
    · intro h
      have := congrArg BitVec.toNat h
      simp only [BitVec.toNat_ofNat, Nat.mod_eq_of_lt ha, Nat.mod_eq_of_lt hb] at this
      exact this
    · rintro rfl; rfl
  by_cases e : a = b
  · subst e
    simp [IntOp.cmpi, IntOp.addi, FloatOps.uitofp]
  · have hn : (BitVec.ofNat 32 a == BitVec.ofNat 32 b) = false := by simpa using mt h.1 e
    simp [IntOp.cmpi, IntOp.addi, FloatOps.uitofp, hn, e]

/-- An entry of a block-diagonal matrix: the scaled weight on the diagonal blocks, zero elsewhere. -/
theorem entry_eq {p : Prop} [Decidable p] {w g i : EReal} (hi : i = Ideal.div 1 den) :
    (if p then (1 : EReal) else 0) * (w * (g * i)) = if p then w * scale g else 0 := by
  rw [hi]
  split_ifs
  · rw [one_mul]; rfl
  · rw [zero_mul]

variable (m : (ℓ : Loc nD τ sig) → Buf (Elt Ideal) ℓ) (c : Dev nD)

/-- The points, laid out as rows. -/
theorem V_x (R : Fin 16384) (l : Fin 288) : V m c main_v64 (ix2 R l)
    = m ((c.tc : Thread nD τ).loc main_arg0) (ix4 ⟨R.val / 4096, by omega⟩ ⟨R.val % 4096, by omega⟩ ⟨l.val / 9, by omega⟩ ⟨l.val % 9, by omega⟩) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  pointwise

/-- The flags, laid out as rows of words. -/
theorem V_mask (R : Fin 16384) (p : Fin 32) : V m c main_v69 (ix2 R p)
    = BitVec.setWidth 32 (m ((c.tc : Thread nD τ).loc main_arg1) (ix3 ⟨R.val / 4096, by omega⟩ ⟨R.val % 4096, by omega⟩ p)) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  pointwise

/-- The matrix that repeats a point's flag over the point's lanes. -/
theorem V_ew (q : Fin 32) (l : Fin 2048) :
    V m c main_v62 (ix2 q l) = if l.val / 64 = q.val then (1 : EReal) else 0 := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  simp only [StableHlo.TRef.ofBuf_toBuf, StableHlo.TRef.toBuf, StableHlo.TRef.ofBuf, cast_eq]
  pointwise
  rw [eye_eq (by omega) (by omega)]
  exact if_congr eq_comm rfl rfl

/-- The first layer's matrix. -/
theorem V_wtop (k : Fin 144) (l : Fin 1024) : V m c main_v15 (ix2 k l)
    = if k.val / 9 = l.val / 64 then
        folded (fun i j => m ((c.tc : Thread nD τ).loc main_arg2) (ix2 i j)) (fun j => m ((c.tc : Thread nD τ).loc main_arg3) (ix1 j))
          ⟨k.val % 9, by omega⟩ ⟨l.val % 64, by omega⟩
      else 0 := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  simp only [StableHlo.TRef.ofBuf_toBuf, StableHlo.TRef.toBuf, StableHlo.TRef.ofBuf, cast_eq]
  pointwise
  rw [eye_eq (by omega) (by omega)]
  exact entry_eq inv_eq

/-- The first layer's offsets, repeated. -/
theorem V_bpre (l : Fin 2048) : V m c main_v50 (ix2 0 l)
    = m ((c.tc : Thread nD τ).loc main_arg4) (ix1 ⟨l.val % 64, by omega⟩) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  try simp only [StableHlo.TRef.ofBuf_toBuf, StableHlo.TRef.toBuf, StableHlo.TRef.ofBuf, cast_eq]
  pointwise

/-- The second layer's matrix for a point's own channels. -/
theorem V_w1a (k l : Fin 256) : V m c main_v30 (ix2 k l)
    = if k.val / 64 = l.val / 64 then
        folded (fun i j => m ((c.tc : Thread nD τ).loc main_arg5) (ix2 (lower i) j)) (fun j => m ((c.tc : Thread nD τ).loc main_arg6) (ix1 j))
          ⟨k.val % 64, by omega⟩ ⟨l.val % 64, by omega⟩
      else 0 := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  simp only [StableHlo.TRef.ofBuf_toBuf, StableHlo.TRef.toBuf, StableHlo.TRef.ofBuf, cast_eq]
  pointwise
  exact (congrArg (· * _) (eye_eq (a := k.val / 64) (b := l.val / 64) (by omega) (by omega))).trans (entry_eq inv_eq)

/-- The second layer's matrix for the pooled channels. -/
theorem V_w1b (k l : Fin 64) : V m c main_v32 (ix2 k l)
    = folded (fun i j => m ((c.tc : Thread nD τ).loc main_arg5) (ix2 (upper i) j)) (fun j => m ((c.tc : Thread nD τ).loc main_arg6) (ix1 j)) k l := by
  unfold folded scale
  rw [← inv_eq]
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  pointwise
  rfl

/-- The second layer's offsets. -/
theorem V_b1 (l : Fin 64) : V m c main_v66 (ix2 0 l) = m ((c.tc : Thread nD τ).loc main_arg7) (ix1 l) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  pointwise

/-- The third layer's matrix. -/
theorem V_w2 (k l : Fin 256) : V m c main_v46 (ix2 k l)
    = if k.val / 64 = l.val / 64 then
        folded (fun i j => m ((c.tc : Thread nD τ).loc main_arg8) (ix2 i j)) (fun j => m ((c.tc : Thread nD τ).loc main_arg9) (ix1 j))
          ⟨k.val % 64, by omega⟩ ⟨l.val % 64, by omega⟩
      else 0 := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  simp only [StableHlo.TRef.ofBuf_toBuf, StableHlo.TRef.toBuf, StableHlo.TRef.ofBuf, cast_eq]
  pointwise
  rw [eye_eq (by omega) (by omega)]
  exact entry_eq inv_eq

/-- The third layer's offsets, repeated. -/
theorem V_b2 (l : Fin 2048) : V m c main_v54 (ix2 0 l)
    = m ((c.tc : Thread nD τ).loc main_arg10) (ix1 ⟨l.val % 64, by omega⟩) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  try simp only [StableHlo.TRef.ofBuf_toBuf, StableHlo.TRef.toBuf, StableHlo.TRef.ofBuf, cast_eq]
  pointwise

/-- The first output layer's offsets. -/
theorem V_bo1 (l : Fin 64) : V m c main_v67 (ix2 0 l) = m ((c.tc : Thread nD τ).loc main_arg12) (ix1 l) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  pointwise

/-- The second output layer's offsets. -/
theorem V_bo2 (l : Fin 128) : V m c main_v68 (ix2 0 l) = m ((c.tc : Thread nD τ).loc main_arg14) (ix1 l) := by
  simp only [V, V0, List.flatten_cons, List.flatten_nil, List.append_nil, List.cons_append, List.nil_append,
    hostOps0, hostOps0_1, hostOps0_2, hostOps0_3, hostOps0_4, hostOps0_5, hostOps0_6, hostOps0_7, hostOps0_8]
  after_reads_simp
  pointwise

end Cert.KernelIdeal.Value

end
-- ==== Proof.Blocks.lean ====
/-
  The kernel's result array: the block a grid point stores, at a row and channel, is the encoder of that row's points; the
  blocks cover the array.
-/
module

public import proofs.«01_k».proof.Proof.Body
public import proofs.«01_k».proof.Proof.Host

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

/-! ## The stored block from the blocks it is computed from -/

/-- The whole body at a row: the encoder with the scales in the weights. -/
theorem body_apply (x0 : Vec Ideal S2048x288 .bf16) (x1 : Vec Ideal S2048x32 .i32) (x2 : Vec Ideal S32x2048 .bf16)
    (x3 : Vec Ideal S144x1024 .bf16) (x4 : Vec Ideal S1x2048 .f32) (x5 : Vec Ideal S256x256 .bf16)
    (x6 : Vec Ideal S64x64 .bf16) (x7 : Vec Ideal S1x64 .f32) (x8 : Vec Ideal S256x256 .bf16) (x9 : Vec Ideal S1x2048 .f32)
    (x10 : Vec Ideal S64x64 .f32) (x11 : Vec Ideal S1x64 .f32) (x12 : Vec Ideal S64x128 .f32) (x13 : Vec Ideal S1x128 .f32)
    (r : Fin 2048) (x : Fin 32 → Fin 9 → EReal) (k : Fin 32 → BitVec 1) (w : Fin 9 → Fin 64 → EReal) (g b : Fin 64 → EReal)
    (w1 : Fin 128 → Fin 64 → EReal) (g1 b1 : Fin 64 → EReal) (w2 : Fin 64 → Fin 64 → EReal) (g2 b2 : Fin 64 → EReal)
    (v : Fin 64 → Fin 64 → EReal) (a : Fin 64 → EReal) (v' : Fin 64 → Fin 128 → EReal) (a' : Fin 128 → EReal)
    (h0 : ∀ p i, x0 (ix2 r ⟨9 * p.val + i.val, by omega⟩) = x p i) (h1 : ∀ p : Fin 32, mark (x1 (ix2 r p)) = flag (k p))
    (h2 : ∀ (q : Fin 32) (l : Fin 2048), x2 (ix2 q l) = if l.val / 64 = q.val then (1 : EReal) else 0)
    (h3 : ∀ (k : Fin 144) (l : Fin 1024), x3 (ix2 k l) =
      if k.val / 9 = l.val / 64 then folded w g ⟨k.val % 9, by omega⟩ ⟨l.val % 64, by omega⟩ else 0)
    (h4 : ∀ l : Fin 2048, x4 (ix2 0 l) = b ⟨l.val % 64, by omega⟩)
    (h5 : ∀ k l : Fin 256, x5 (ix2 k l) =
      if k.val / 64 = l.val / 64 then folded (fun i => w1 (lower i)) g1 ⟨k.val % 64, by omega⟩ ⟨l.val % 64, by omega⟩ else 0)
    (h6 : ∀ i j, x6 (ix2 i j) = folded (fun i => w1 (upper i)) g1 i j) (h7 : ∀ j, x7 (ix2 0 j) = b1 j)
    (h8 : ∀ k l : Fin 256, x8 (ix2 k l) =
      if k.val / 64 = l.val / 64 then folded w2 g2 ⟨k.val % 64, by omega⟩ ⟨l.val % 64, by omega⟩ else 0)
    (h9 : ∀ l : Fin 2048, x9 (ix2 0 l) = b2 ⟨l.val % 64, by omega⟩)
    (h10 : ∀ i j, x10 (ix2 i j) = v i j) (h11 : ∀ j, x11 (ix2 0 j) = a j) (h12 : ∀ j q, x12 (ix2 j q) = v' j q)
    (h13 : ∀ q, x13 (ix2 0 q) = a' q) (q : Fin 128) :
    k0_pay1 (k0_pay9 (k0_pay2 x1 x2)
        (k0_pay6 (k0_pay3 x0 x1 x2 x3 x3 x4) (k0_pay4 x0 x1 x2 x3 x3 x4) (k0_pay5 x0 x1 x2 x3 x3 x4) x5 x6 x7) (k0_pay7 x8)
        (k0_pay8 (k0_pay3 x0 x1 x2 x3 x3 x4) (k0_pay4 x0 x1 x2 x3 x3 x4) (k0_pay5 x0 x1 x2 x3 x3 x4) x5 x6 x7 x8) x9)
        (k0_pay10 x1) x10 x11 x12 x13 (ix2 r q)
      = encodeFolded x k w g b w1 g1 b1 w2 g2 b2 v a v' a' q := by
  obtain rfl : (fun i j => x10 (ix2 i j)) = v := funext fun i => funext fun j => h10 i j
  obtain rfl : (fun j => x11 (ix2 0 j)) = a := funext h11
  obtain rfl : (fun j q => x12 (ix2 j q)) = v' := funext fun j => funext fun q => h12 j q
  obtain rfl : (fun q => x13 (ix2 0 q)) = a' := funext h13
  obtain rfl : (fun p i => x0 (ix2 r ⟨9 * p.val + i.val, by omega⟩)) = x := funext fun p => funext fun i => h0 p i
  have e1 : (fun p => mark (x1 (ix2 r p))) = fun p => flag (k p) := funext h1
  have e6 : (fun i j => x6 (ix2 i j)) = folded (fun i => w1 (upper i)) g1 := funext fun i => funext fun j => h6 i j
  obtain rfl : (fun j => x7 (ix2 0 j)) = b1 := funext h7
  rw [pay1_apply, encodeFolded, e1]
  refine if_congr Iff.rfl (congrArg (fun o => head o _ _ _ _ q) (funext fun j => ?_)) rfl
  unfold k0_pay8
  refine (pay9_apply _ _ x8 x9 (fun p => mark (x1 (ix2 r p))) _ b2 r (pay2_apply x1 x2 h2 r) h8 h9 j).trans ?_
  rw [e1]
  refine congrArg (fun h => pool (last h _ _ b2) j) (funext fun p => funext fun i => ?_)
  refine (pay6_apply x0 x1 x2 x3 x4 x5 x6 x7 _ h5 r p i).trans ?_
  rw [e6]
  refine congrArg (fun f => hid f _ _ _ p i) (funext fun p => funext fun i => ?_)
  refine (pay3_apply x0 x1 x2 x3 x4 _ b h2 h3 h4 r p i).trans ?_
  rw [e1]

/-! ## The windows' blocks -/

variable (m : (ℓ : Loc nD τ sig) → Buf (Elt Ideal) ℓ) (c : Dev nD)

/-- The points' block at a grid point: rows of the points' array. -/
theorem blk_x (t : Fin cfg0.N) (r : Fin 2048) (l : Fin 288) (R : Fin 16384) (hR : R.val = 2048 * t.val + r.val) :
    iblk m c 0 t (ix2 r l) = V m c main_v64 (ix2 R l) := by
  have e := (by decide +kernel : ∀ t : Fin grid0.N, win0_0.index t = ![t.val, 0]) t
  blk_simp [iblk]
  exact congrArg _ (by blk_ext [e])

/-- The flags' block at a grid point: rows of the flags' array. -/
theorem blk_mask (t : Fin cfg0.N) (r : Fin 2048) (p : Fin 32) (R : Fin 16384) (hR : R.val = 2048 * t.val + r.val) :
    iblk m c 1 t (ix2 r p) = V m c main_v69 (ix2 R p) := by
  have e := (by decide +kernel : ∀ t : Fin grid0.N, win0_1.index t = ![t.val, 0]) t
  blk_simp [iblk]
  exact congrArg _ (by blk_ext [e])

/-- A grid point sees the whole array that spreads the flags over the channels. -/
theorem blk_ew (t : Fin cfg0.N) (q : Fin 32) (l : Fin 2048) : iblk m c 2 t (ix2 q l) = V m c main_v62 (ix2 q l) := by
  have e := (by decide +kernel : ∀ t : Fin grid0.N, win0_2.index t = ![0, 0]) t
  blk_simp [iblk]
  exact congrArg _ (by blk_ext [e])

/-- A grid point sees the whole block-diagonal weight of the first layer. -/
theorem blk_wtop (t : Fin cfg0.N) (k : Fin 144) (l : Fin 1024) : iblk m c 3 t (ix2 k l) = V m c main_v15 (ix2 k l) := by
  have e := (by decide +kernel : ∀ t : Fin grid0.N, win0_3.index t = ![0, 0]) t
  blk_simp [iblk]
  exact congrArg _ (by blk_ext [e])

/-- A grid point sees the first layer's offsets, repeated for every point. -/
theorem blk_bpre (t : Fin cfg0.N) (l : Fin 2048) : iblk m c 4 t (ix2 0 l) = V m c main_v50 (ix2 0 l) := by
  have e := (by decide +kernel : ∀ t : Fin grid0.N, win0_4.index t = ![0, 0]) t
  blk_simp [iblk]
  exact congrArg _ (by blk_ext [e])

/-- A grid point sees the whole block-diagonal weight of the second layer's first 64 rows. -/
theorem blk_w1a (t : Fin cfg0.N) (k l : Fin 256) : iblk m c 5 t (ix2 k l) = V m c main_v30 (ix2 k l) := by
  have e := (by decide +kernel : ∀ t : Fin grid0.N, win0_5.index t = ![0, 0]) t
  blk_simp [iblk]
  exact congrArg _ (by blk_ext [e])

/-- A grid point sees the whole weight of the second layer's last 64 rows. -/
theorem blk_w1b (t : Fin cfg0.N) (k l : Fin 64) : iblk m c 6 t (ix2 k l) = V m c main_v32 (ix2 k l) := by
  have e := (by decide +kernel : ∀ t : Fin grid0.N, win0_6.index t = ![0, 0]) t
  blk_simp [iblk]
  exact congrArg _ (by blk_ext [e])

/-- A grid point sees the second layer's offsets. -/
theorem blk_b1 (t : Fin cfg0.N) (l : Fin 64) : iblk m c 7 t (ix2 0 l) = V m c main_v66 (ix2 0 l) := by
  have e := (by decide +kernel : ∀ t : Fin grid0.N, win0_7.index t = ![0, 0]) t
  blk_simp [iblk]
  exact congrArg _ (by blk_ext [e])

/-- A grid point sees the whole block-diagonal weight of the third layer. -/
theorem blk_w2 (t : Fin cfg0.N) (k l : Fin 256) : iblk m c 8 t (ix2 k l) = V m c main_v46 (ix2 k l) := by
  have e := (by decide +kernel : ∀ t : Fin grid0.N, win0_8.index t = ![0, 0]) t
  blk_simp [iblk]
  exact congrArg _ (by blk_ext [e])

/-- A grid point sees the third layer's offsets, repeated for every point. -/
theorem blk_b2 (t : Fin cfg0.N) (l : Fin 2048) : iblk m c 9 t (ix2 0 l) = V m c main_v54 (ix2 0 l) := by
  have e := (by decide +kernel : ∀ t : Fin grid0.N, win0_9.index t = ![0, 0]) t
  blk_simp [iblk]
  exact congrArg _ (by blk_ext [e])

/-- A grid point sees the whole weight of the first output layer. -/
theorem blk_wo1 (t : Fin cfg0.N) (i j : Fin 64) : iblk m c 10 t (ix2 i j) = V m c main_arg11 (ix2 i j) := by
  have e := (by decide +kernel : ∀ t : Fin grid0.N, win0_10.index t = ![0, 0]) t
  blk_simp [iblk]
  exact congrArg _ (by blk_ext [e])

/-- A grid point sees the offsets of the first output layer. -/
theorem blk_bo1 (t : Fin cfg0.N) (j : Fin 64) : iblk m c 11 t (ix2 0 j) = V m c main_v67 (ix2 0 j) := by
  have e := (by decide +kernel : ∀ t : Fin grid0.N, win0_11.index t = ![0, 0]) t
  blk_simp [iblk]
  exact congrArg _ (by blk_ext [e])

/-- A grid point sees the whole weight of the second output layer. -/
theorem blk_wo2 (t : Fin cfg0.N) (j : Fin 64) (q : Fin 128) : iblk m c 12 t (ix2 j q) = V m c main_arg13 (ix2 j q) := by
  have e := (by decide +kernel : ∀ t : Fin grid0.N, win0_12.index t = ![0, 0]) t
  blk_simp [iblk]
  exact congrArg _ (by blk_ext [e])

/-- A grid point sees the offsets of the second output layer. -/
theorem blk_bo2 (t : Fin cfg0.N) (q : Fin 128) : iblk m c 13 t (ix2 0 q) = V m c main_v68 (ix2 0 q) := by
  have e := (by decide +kernel : ∀ t : Fin grid0.N, win0_13.index t = ![0, 0]) t
  blk_simp [iblk]
  exact congrArg _ (by blk_ext [e])

/-! ## The result array -/

/-- A flag widened to a word is marked as the flag is. -/
theorem mark_flag (b : BitVec 1) : mark (BitVec.setWidth 32 b) = flag b := by
  rcases BitVec.eq_zero_or_eq_one b with h | h
  · subst h; simp [mark, flag]
  · subst h; simp [mark, flag]

/-- The encoder, the scales in the weights, of the polyline at an index. -/
def rowEnc (u : Fin 4) (n : Fin 4096) (q : Fin 128) : EReal :=
  encodeFolded (fun p i => m ((c.tc : Thread nD τ).loc main_arg0) (ix4 u n p i))
    (fun p => m ((c.tc : Thread nD τ).loc main_arg1) (ix3 u n p))
    (fun i j => m ((c.tc : Thread nD τ).loc main_arg2) (ix2 i j)) (fun j => m ((c.tc : Thread nD τ).loc main_arg3) (ix1 j))
    (fun j => m ((c.tc : Thread nD τ).loc main_arg4) (ix1 j)) (fun i j => m ((c.tc : Thread nD τ).loc main_arg5) (ix2 i j))
    (fun j => m ((c.tc : Thread nD τ).loc main_arg6) (ix1 j)) (fun j => m ((c.tc : Thread nD τ).loc main_arg7) (ix1 j))
    (fun i j => m ((c.tc : Thread nD τ).loc main_arg8) (ix2 i j)) (fun j => m ((c.tc : Thread nD τ).loc main_arg9) (ix1 j))
    (fun j => m ((c.tc : Thread nD τ).loc main_arg10) (ix1 j)) (fun i j => m ((c.tc : Thread nD τ).loc main_arg11) (ix2 i j))
    (fun j => m ((c.tc : Thread nD τ).loc main_arg12) (ix1 j)) (fun j q => m ((c.tc : Thread nD τ).loc main_arg13) (ix2 j q))
    (fun q => m ((c.tc : Thread nD τ).loc main_arg14) (ix1 q)) q

/-- The block a grid point stores, at a row and channel. -/
theorem stored_apply (t : Fin cfg0.N) (r : Fin 2048) (q : Fin 128) (R : Fin 16384) (hR : R.val = 2048 * t.val + r.val) :
    k0_pay1
      (k0_pay9 (k0_pay2 (iblk m c 1 t) (iblk m c 2 t))
        (k0_pay6 (k0_pay3 (iblk m c 0 t) (iblk m c 1 t) (iblk m c 2 t) (iblk m c 3 t) (iblk m c 3 t) (iblk m c 4 t))
          (k0_pay4 (iblk m c 0 t) (iblk m c 1 t) (iblk m c 2 t) (iblk m c 3 t) (iblk m c 3 t) (iblk m c 4 t))
          (k0_pay5 (iblk m c 0 t) (iblk m c 1 t) (iblk m c 2 t) (iblk m c 3 t) (iblk m c 3 t) (iblk m c 4 t))
          (iblk m c 5 t) (iblk m c 6 t) (iblk m c 7 t))
        (k0_pay7 (iblk m c 8 t))
        (k0_pay8 (k0_pay3 (iblk m c 0 t) (iblk m c 1 t) (iblk m c 2 t) (iblk m c 3 t) (iblk m c 3 t) (iblk m c 4 t))
          (k0_pay4 (iblk m c 0 t) (iblk m c 1 t) (iblk m c 2 t) (iblk m c 3 t) (iblk m c 3 t) (iblk m c 4 t))
          (k0_pay5 (iblk m c 0 t) (iblk m c 1 t) (iblk m c 2 t) (iblk m c 3 t) (iblk m c 3 t) (iblk m c 4 t))
          (iblk m c 5 t) (iblk m c 6 t) (iblk m c 7 t) (iblk m c 8 t))
        (iblk m c 9 t))
      (k0_pay10 (iblk m c 1 t)) (iblk m c 10 t) (iblk m c 11 t) (iblk m c 12 t) (iblk m c 13 t) (ix2 r q)
      = rowEnc m c ⟨R.val / 4096, by omega⟩ ⟨R.val % 4096, by omega⟩ q := by
  refine body_apply _ _ _ _ _ _ _ _ _ _ _ _ _ _ r _ _ _ _ _ _ _ _ _ _ _ _ _ _ _ (fun p i => ?_) (fun p => ?_)
    (fun q l => (blk_ew m c t q l).trans (V_ew m c q l)) (fun k l => (blk_wtop m c t k l).trans (V_wtop m c k l))
    (fun l => (blk_bpre m c t l).trans (V_bpre m c l)) (fun k l => (blk_w1a m c t k l).trans (V_w1a m c k l))
    (fun k l => (blk_w1b m c t k l).trans (V_w1b m c k l)) (fun l => (blk_b1 m c t l).trans (V_b1 m c l))
    (fun k l => (blk_w2 m c t k l).trans (V_w2 m c k l)) (fun l => (blk_b2 m c t l).trans (V_b2 m c l))
    (fun i j => (blk_wo1 m c t i j).trans (congrFun (V_main_arg11 m c) _)) (fun j => (blk_bo1 m c t j).trans (V_bo1 m c j))
    (fun j q => (blk_wo2 m c t j q).trans (congrFun (V_main_arg13 m c) _)) (fun q => (blk_bo2 m c t q).trans (V_bo2 m c q)) q
  · refine ((blk_x m c t r _ R hR).trans (V_x m c R _)).trans ?_
    exact congrArg₂ (fun a b => m ((c.tc : Thread nD τ).loc main_arg0) (ix4 _ _ a b)) (Fin.ext (by simp only []; omega))
      (Fin.ext (by simp only []; omega))
  · exact (congrArg mark ((blk_mask m c t r p R hR).trans (V_mask m c R p))).trans (mark_flag _)

/-- The rows of the result array, one per polyline. -/
def rows (i : S16384x128.Idx) : EReal :=
  rowEnc m c ⟨(i 0).val / 4096, by have h : (i 0).val < 16384 := (i 0).isLt; omega⟩ ⟨(i 0).val % 4096, by omega⟩ (i 1)

/-- The region's result array after the last grid point. -/
theorem final_rows : (dats m 0 c).arrAt 14 cfg0.N = rows m c := by
  refine (dats m 0 c).arrAt_eq_of_covers 14 _ (by decide +kernel) fun t _ y => ?_
  have e := (by decide +kernel : ∀ t : Fin grid0.N, win0_14.index t = ![t.val, 0]) t
  blk_simp
  rw [after0_14]
  unfold_out out0_14
  frame_out
  obtain ⟨r, q, rfl⟩ : ∃ (r : Fin 2048) (q : Fin 128), y = ix2 r q := ⟨y 0, y 1, by funext a; fin_cases a <;> rfl⟩
  have hN : t.val < 8 := t.isLt
  obtain ⟨R, hR⟩ : ∃ R : Fin 16384, R.val = 2048 * t.val + r.val := ⟨⟨2048 * t.val + r.val, by omega⟩, rfl⟩
  have hy : (win0_14.blk t).view.emb (ix2 r q) = ix2 R q := by blk_ext [e]
  exact (stored_apply m c t r q R hR).trans (congrArg (rows m c) hy).symm

end Cert.KernelIdeal.Value

end
-- ==== Proof.Value.lean ====
/-
  The kernel program's result: the encoder, with the normalization scales in the weights, of every polyline.
-/
module

public import proofs.«01_k».proof.Proof.Blocks

@[expose] public section

set_option maxRecDepth 16384

noncomputable section

namespace Cert.KernelIdeal.Value

open Idealize.ShloMosaic Idealize.ShloMosaic.TcCoe Idealize.SL.Sem
open Cert.KernelIdeal Cert.KernelIdeal.Gen Cert.Spec

variable (m : (ℓ : Loc nD τ sig) → Buf (Elt Ideal) ℓ)

/-- The result array: at a scene, a polyline and a channel, the encoder of that polyline. -/
def encoded (c : Dev nD) (i : S4x4096x128.Idx) : EReal := rowEnc m c (i 0) (i 1) (i 2)

/-- What the host line after the region leaves in the result: the region's rows, split into scenes and polylines. -/
theorem result (c : Dev nD) : Pipeline.afterTail₀ cfgs (dats m) 0 (V0 m) [hostOps1] c main_v71 = encoded m c := by
  funext i
  obtain ⟨u, n, q, rfl⟩ : ∃ (u : Fin 4) (n : Fin 4096) (q : Fin 128), i = ix3 u n q :=
    ⟨i 0, i 1, i 2, by funext a; fin_cases a <;> rfl⟩
  have h : Pipeline.withArrays (cfgs 0).spec c (V0 m c) (fun w => (dats m 0 c).arrAt w (cfgs 0).N) (Proc.devRef .tc main_v70)
      = rows m c :=
    (Pipeline.withArrays_arr spec0 (by decide) c (V0 m c) (fun w => (dats m 0 c).arrAt w cfg0.N) 14).trans (final_rows m c)
  unfold Pipeline.afterTail₀
  simp only [hostOps1, List.flatten_cons, List.flatten_nil, List.append_nil]
  after_reads_simp
  rw [h]
  pointwise
  exact congrArg₂ (fun a b => rowEnc m c a b q) (Fin.ext (by show (u.val * 4096 + n.val) / 4096 = u.val; omega))
    (Fin.ext (by show (u.val * 4096 + n.val) % 4096 = n.val; omega))

/-- Every execution of the kernel program ends with the encoded polylines in the result. -/
theorem run (ρ : Dev nD → PrngReg) :
    θ_run defs (onTc (τ := τ) (main (F := Ideal))) ⟨m, fun _ => 0, ρ⟩
      (fun r => ∀ c : Dev nD, r.2.mem ((c.tc : Thread nD τ).loc main_v71) = encoded m c) :=
  (θ_run defs _ _).mono
    (fun _ h c => ((h c).2 main_v71 (Pipeline.mem_restRefs_of main_v71 (by decide) (by decide))).trans (result m c))
    (run_main m ρ)

end Cert.KernelIdeal.Value

end
-- ==== Proof.RefValue.lean ====
/-
  The reference read at one polyline: every stage as a layer of the encoder, and the result as the encoder's value.
-/
module

public import Idealize.ShloMosaic.Lib.Pipeline.ValueKit
public import Idealize.ShloMosaic.Lib.Pointwise
public import proofs.«01_k».proof.Proof.Gen.ReferenceIdeal.Read
public import proofs.«01_k».proof.Proof.Scale

@[expose] public section

set_option maxRecDepth 16384

noncomputable section

namespace Cert.ReferenceIdeal.Value

open Idealize.ShloMosaic Idealize.ShloMosaic.TcCoe Idealize.SL.Sem
open Cert.ReferenceIdeal Cert.ReferenceIdeal.Read Cert.Spec

/-! ## Constants, flags and folds -/

/-- The reference's square root of the variance. -/
theorem den_eq : (id (Host.sqrt (constant S_ FTy.f32 1065353300#32)) ix0 : Ideal .f32) = den := rfl

/-- A bit made a float is its flag. -/
theorem flag_eq (b : BitVec 1) : (FloatOps.uitofp FTy.f32 b : Ideal .f32) = flag b := by
  revert b
  have h0 : (FloatOps.uitofp FTy.f32 (0#1) : Ideal .f32) = flag 0#1 := by simp [FloatOps.uitofp, flag]
  have h1 : (FloatOps.uitofp FTy.f32 (1#1) : Ideal .f32) = flag 1#1 := by simp [FloatOps.uitofp, flag]
  intro b
  rcases BitVec.eq_zero_or_eq_one b with h | h
  · rw [h, h0]
  · rw [h, h1]

/-- A maximum taken from minus infinity is the pooled channel. -/
theorem fold_max (f : Fin 32 → EReal) :
    Finset.fold max (Ideal.ofBits FTy.f32 4286578688#32) f Finset.univ = Finset.univ.sup f := by
  have h : Ideal.ofBits FTy.f32 4286578688#32 = (⊥ : EReal) := by simp [Ideal.ofBits, Ideal.ieee]
  rw [h]
  rfl

/-- The disjunction of bits is one exactly when one of the bits is. -/
theorem fold_or {n : ℕ} (f : Fin n → BitVec 1) (s : Finset (Fin n)) :
    Finset.fold IntOp.ori (0#1) f s = 1#1 ↔ ∃ p ∈ s, f p = 1#1 := by
  induction s using Finset.cons_induction with
  | empty => simp
  | cons a s ha ih =>
    rw [Finset.fold_cons]
    have h : ∀ x y : BitVec 1, IntOp.ori x y = 1#1 ↔ x = 1#1 ∨ y = 1#1 := by decide
    rw [h, ih]
    simp

/-! ## The stages -/

variable (x0 : (⟨S4x4096x32x9, .f32⟩ : BufTy).Contents (Elt Ideal)) (x1 : (⟨S4x4096x32, .i1⟩ : BufTy).Contents (Elt Ideal))
  (x2 : (⟨S9x64, .f32⟩ : BufTy).Contents (Elt Ideal)) (x3 x4 : (⟨S64, .f32⟩ : BufTy).Contents (Elt Ideal))
  (x5 : (⟨S128x64, .f32⟩ : BufTy).Contents (Elt Ideal)) (x6 x7 : (⟨S64, .f32⟩ : BufTy).Contents (Elt Ideal))
  (x8 : (⟨S64x64, .f32⟩ : BufTy).Contents (Elt Ideal)) (x9 x10 : (⟨S64, .f32⟩ : BufTy).Contents (Elt Ideal))
  (x11 : (⟨S64x64, .f32⟩ : BufTy).Contents (Elt Ideal)) (x12 : (⟨S64, .f32⟩ : BufTy).Contents (Elt Ideal))
  (x13 : (⟨S64x128, .f32⟩ : BufTy).Contents (Elt Ideal)) (x14 : (⟨S128, .f32⟩ : BufTy).Contents (Elt Ideal))
  (b : Fin 4) (n : Fin 4096)

/-- The first layer, zero at a point that is not marked. -/
theorem feat_apply (p : Fin 32) (j : Fin 64) :
    val_main_v15 x0 x1 x2 x3 x4 (ix4 b n p j)
      = norm (x3 (ix1 j)) (x4 (ix1 j)) (∑ i, x0 (ix4 b n p i) * x2 (ix2 i j)) * flag (x1 (ix3 b n p)) := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_call0_v0, val_main_call0_cst]
  rw [flag_eq, den_eq]
  rfl

/-- The first layer's pooled channels. -/
theorem pool_apply (j : Fin 64) :
    val_main_v16 x0 x1 x2 x3 x4 (ix3 b n j) = pool (fun p j => val_main_v15 x0 x1 x2 x3 x4 (ix4 b n p j)) j := by
  pointwise [val_main_v16, val_main_cst_0]
  rw [fold_max]
  rfl

/-- The second layer's sum, over a point's own channels and the pooled ones. -/
theorem sum_apply (p : Fin 32) (j : Fin 64) :
    val_main_v20 x0 x1 x2 x3 x4 x5 (ix4 b n p j)
      = ∑ i, val_main_v15 x0 x1 x2 x3 x4 (ix4 b n p i) * x5 (ix2 (lower i) j)
        + ∑ i, pool (fun p j => val_main_v15 x0 x1 x2 x3 x4 (ix4 b n p j)) i * x5 (ix2 (upper i) j) := by
  pointwise [val_main_v20, val_main_v19, val_main_v18, val_main_v17]
  simp only [pool_apply]
  rfl

/-- The second layer. -/
theorem hid_apply (p : Fin 32) (j : Fin 64) :
    val_main_v31 x0 x1 x2 x3 x4 x5 x6 x7 (ix4 b n p j)
      = norm (x6 (ix1 j)) (x7 (ix1 j)) (val_main_v20 x0 x1 x2 x3 x4 x5 (ix4 b n p j)) := by
  pointwise [val_main_v31, val_main_v30, val_main_v29, val_main_v28, val_main_v27, val_main_v26, val_main_v25, val_main_v24,
    val_main_v23, val_main_v22, val_main_v21, val_main_cst_1, val_main_call1_v0, val_main_call1_cst]
  rw [den_eq]
  rfl

/-- The third layer, zero at a point that is not marked. -/
theorem last_apply (p : Fin 32) (j : Fin 64) :
    val_main_v45 x0 x1 x2 x3 x4 x5 x6 x7 x8 x9 x10 (ix4 b n p j)
      = norm (x9 (ix1 j)) (x10 (ix1 j)) (∑ i, val_main_v31 x0 x1 x2 x3 x4 x5 x6 x7 (ix4 b n p i) * x8 (ix2 i j))
        * flag (x1 (ix3 b n p)) := by
  unfold val_main_v45 val_main_v43 val_main_v42 val_main_v39 val_main_v35 val_main_v32
  generalize val_main_v31 x0 x1 x2 x3 x4 x5 x6 x7 = y
  pointwise [val_main_v44, val_main_v41, val_main_v40, val_main_v38,
    val_main_v37, val_main_v36, val_main_v34, val_main_v33, val_main_cst_2, val_main_call2_v0,
    val_main_call2_cst, val_main_v1, val_main_v0]
  rw [flag_eq, den_eq]
  rfl

/-- The channels the output layers read. -/
theorem pooled_apply (j : Fin 64) :
    val_main_v46 x0 x1 x2 x3 x4 x5 x6 x7 x8 x9 x10 (ix3 b n j)
      = pooled (fun p i => x0 (ix4 b n p i)) (fun p => flag (x1 (ix3 b n p))) (fun i j => x2 (ix2 i j)) (fun j => x3 (ix1 j))
          (fun j => x4 (ix1 j)) (fun i j => x5 (ix2 (lower i) j)) (fun i j => x5 (ix2 (upper i) j)) (fun j => x6 (ix1 j))
          (fun j => x7 (ix1 j)) (fun i j => x8 (ix2 i j)) (fun j => x9 (ix1 j)) (fun j => x10 (ix1 j)) j := by
  pointwise [val_main_v46, val_main_cst_3]
  rw [fold_max]
  simp only [last_apply, hid_apply, sum_apply, feat_apply]
  rfl

/-- Whether a polyline has a point. -/
theorem any_apply : val_main_v47 x1 (ix2 b n) = 1#1 ↔ ∃ p, x1 (ix3 b n p) = 1#1 := by
  have e : val_main_v47 x1 (ix2 b n) = Finset.fold IntOp.ori (0#1) (fun p => x1 (ix3 b n p)) Finset.univ := by
    pointwise [val_main_v47, val_main_c]
  exact e ▸ (fold_or _ _).trans ⟨fun ⟨p, _, h⟩ => ⟨p, h⟩, fun ⟨p, h⟩ => ⟨p, Finset.mem_univ p, h⟩⟩

/-- The first output layer. -/
theorem out_apply (j : Fin 64) :
    val_main_v52 x0 x1 x2 x3 x4 x5 x6 x7 x8 x9 x10 x11 x12 (ix3 b n j)
      = relu (∑ i, val_main_v46 x0 x1 x2 x3 x4 x5 x6 x7 x8 x9 x10 (ix3 b n i) * x11 (ix2 i j) + x12 (ix1 j)) := by
  have hl (i : Fin 64) : lidx_main_v48 (ix3 b n j) i = ix3 b n i := funext fun a => by fin_cases a <;> rfl
  have hr (i : Fin 64) : ridx_main_v48 (ix3 b n j) i = ix2 i j := funext fun a => by fin_cases a <;> rfl
  have hb : idx_main_v49 (idx_main_v50 (ix3 b n j)) = ix1 j := funext fun a => by fin_cases a; rfl
  rw [val_main_v52_apply, val_main_v51_apply, val_main_v48_apply, val_main_v50_apply, val_main_v49_apply,
    val_main_call3_v0_apply, val_main_call3_cst_apply, hb]
  simp only [hl, hr]
  generalize val_main_v46 x0 x1 x2 x3 x4 x5 x6 x7 x8 x9 x10 = y
  rw [relu, ← Ideal.ofBits_zero]
  rfl

/-- The output layers. -/
theorem head_apply (q : Fin 128) :
    val_main_v56 x0 x1 x2 x3 x4 x5 x6 x7 x8 x9 x10 x11 x12 x13 x14 (ix3 b n q)
      = head (fun j => val_main_v46 x0 x1 x2 x3 x4 x5 x6 x7 x8 x9 x10 (ix3 b n j)) (fun i j => x11 (ix2 i j))
          (fun j => x12 (ix1 j)) (fun j q => x13 (ix2 j q)) (fun q => x14 (ix1 q)) q := by
  have hl (j : Fin 64) : lidx_main_v53 (ix3 b n q) j = ix3 b n j := funext fun a => by fin_cases a <;> rfl
  have hr (j : Fin 64) : ridx_main_v53 (ix3 b n q) j = ix2 j q := funext fun a => by fin_cases a <;> rfl
  have hb : idx_main_v54 (idx_main_v55 (ix3 b n q)) = ix1 q := funext fun a => by fin_cases a; rfl
  rw [val_main_v56_apply, val_main_v53_apply, val_main_v55_apply, val_main_v54_apply, hb]
  simp only [hl, hr, head, out_apply]
  generalize val_main_v46 x0 x1 x2 x3 x4 x5 x6 x7 x8 x9 x10 = y
  rfl

/-- The choice between a polyline's result and zero. -/
theorem select_apply (q : Fin 128) :
    val_main_v59 x0 x1 x2 x3 x4 x5 x6 x7 x8 x9 x10 x11 x12 x13 x14 (ix3 b n q)
      = Scalar.select (val_main_v47 x1 (ix2 b n))
          (val_main_v56 x0 x1 x2 x3 x4 x5 x6 x7 x8 x9 x10 x11 x12 x13 x14 (ix3 b n q)) 0 := by
  unfold val_main_v59
  generalize val_main_v56 x0 x1 x2 x3 x4 x5 x6 x7 x8 x9 x10 x11 x12 x13 x14 = y
  pointwise [val_main_v58, val_main_v57, val_main_cst_4, val_main_call4_v0]

/-- The reference's result at a polyline is the encoder's. -/
theorem result_apply (q : Fin 128) :
    val_main_v59 x0 x1 x2 x3 x4 x5 x6 x7 x8 x9 x10 x11 x12 x13 x14 (ix3 b n q)
      = encode (fun p i => x0 (ix4 b n p i)) (fun p => x1 (ix3 b n p)) (fun i j => x2 (ix2 i j)) (fun j => x3 (ix1 j))
          (fun j => x4 (ix1 j)) (fun i j => x5 (ix2 i j)) (fun j => x6 (ix1 j)) (fun j => x7 (ix1 j))
          (fun i j => x8 (ix2 i j)) (fun j => x9 (ix1 j)) (fun j => x10 (ix1 j)) (fun i j => x11 (ix2 i j))
          (fun j => x12 (ix1 j)) (fun j q => x13 (ix2 j q)) (fun q => x14 (ix1 q)) q := by
  rw [select_apply, head_apply, encode]
  simp only [pooled_apply]
  by_cases h : ∃ p, x1 (ix3 b n p) = 1#1
  · rw [if_pos h, (any_apply x1 b n).2 h]
    rfl
  · rw [if_neg h, Scalar.select]
    exact if_neg (mt (any_apply x1 b n).1 h)

end Cert.ReferenceIdeal.Value

end
-- ==== Proof.Finite.lean ====
/-
  The precondition, read at an index: an entry whose absolute value is less than +∞ is a real number.
-/
module

public import proofs.«01_k».proof.Defs
public import proofs.«01_k».proof.Proof.Scale

@[expose] public section

set_option maxRecDepth 16384

noncomputable section

namespace Cert.Pre_finite_inputs

open Idealize.ShloMosaic
open Cert.Spec

/-- The side conditions of the precondition's operations. -/
theorem facts : Facts := ⟨by decide, by decide, by decide, by decide, by decide⟩

/-- An extended real whose absolute value is less than +∞ is a real number. -/
theorem finite_of_abs_lt {a : EReal} (h : max a (-a) < ⊤) : Finite a := by
  induction a with
  | bot => simp at h
  | coe r => exact ⟨r, rfl⟩
  | top => simp at h

/-- The constant the entries are compared with. -/
theorem bound_eq : Ideal.ofBits .f32 0x7F800000#32 = (⊤ : EReal) := by simp [Ideal.ofBits, Ideal.ieee]

/-- One comparison of the precondition, read at an index. -/
theorem finite_of_test {s : Shape} (x : FVec Ideal s .f32) (hb : S_.BroadcastsInDim s (![] : Fin 0 → Fin s.rank))
    (h : cmpf .olt (Host.absf x) (broadcastInDim s ![] hb (constant S_ .f32 0x7F800000#32)) = fun _ => 1#1) (i : s.Idx) :
    Finite (x i) := by
  have e : Ideal.cmp .olt (max (x i) (-(x i))) (Ideal.ofBits .f32 0x7F800000#32) = 1#1 := congrFun h i
  rw [bound_eq] at e
  apply finite_of_abs_lt
  by_contra hn
  simp [Ideal.cmp, hn] at e

end Cert.Pre_finite_inputs

end
-- ==== Proof.lean ====
/-
  The certificate: the two frames of the kernel, the frame of the reference, the idealization, and the equality of the
  two programs' results over the extended reals when the nine arrays of the precondition hold real numbers.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Value
public import proofs.«01_k».proof.Proof.RefValue
public import proofs.«01_k».proof.Proof.Finite
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem Cert.Spec

/-- Under the precondition, the kernel's form of the encoder and the reference's agree on every polyline. -/
theorem encoded_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : @Cert.Pre_KernelIdeal_finite_inputs Cert.Pre_finite_inputs.facts m) (c : Dev Cert.KernelIdeal.nD)
    (e : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.ReferenceIdeal.Value.res_main_v59 m' c = Cert.KernelIdeal.Value.encoded m c := by
  obtain ⟨e0, e1, e2, e3, e4, e5, e6, e7, e8, e9, e10, e11, e12, e13, e14⟩ := e
  obtain ⟨h0, h2, h3, h4, h5, h6, h7, h8, h9⟩ := h c
  refine (Cert.ReferenceIdeal.Read.val_main_v59_eq m' c).trans ?_
  rw [e0, e1, e2, e3, e4, e5, e6, e7, e8, e9, e10, e11, e12, e13, e14]
  funext i
  obtain ⟨u, n, q, rfl⟩ : ∃ (u : Fin 4) (n : Fin 4096) (q : Fin 128), i = ix3 u n q :=
    ⟨i 0, i 1, i 2, by funext a; fin_cases a <;> rfl⟩
  refine (Cert.ReferenceIdeal.Value.result_apply _ _ _ _ _ _ _ _ _ _ _ _ _ _ _ u n q).trans (Eq.symm ?_)
  exact encode_folded _ _ _ _ _ _ (fun _ _ => Cert.Pre_finite_inputs.finite_of_test _ _ h0 _)
    (fun _ _ => Cert.Pre_finite_inputs.finite_of_test _ _ h2 _) (fun _ => Cert.Pre_finite_inputs.finite_of_test _ _ h3 _)
    (fun _ => Cert.Pre_finite_inputs.finite_of_test _ _ h4 _) (fun _ _ => Cert.Pre_finite_inputs.finite_of_test _ _ h5 _)
    (fun _ => Cert.Pre_finite_inputs.finite_of_test _ _ h6 _) (fun _ => Cert.Pre_finite_inputs.finite_of_test _ _ h7 _)
    (fun _ _ => Cert.Pre_finite_inputs.finite_of_test _ _ h8 _) (fun _ => Cert.Pre_finite_inputs.finite_of_test _ _ h9 _) q

/-- The reference's frame: it ends, leaves its arguments unchanged and every semaphore counter at zero. -/
theorem frame_reference : @Cert.quiescent_ReferenceIdeal Cert.ReferenceIdeal.Gen.facts := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

/-- Both idealized programs end with one result, the encoded polylines, and their arguments unchanged. -/
theorem algebraic : @Cert.algebraic_KernelIdeal_ReferenceIdeal_pre_finite_inputs Cert.KernelIdeal.Gen.facts
    Cert.ReferenceIdeal.Gen.facts Cert.Pre_finite_inputs.facts := fun m g m' g' h e =>
  ⟨Cert.KernelIdeal.Value.encoded m,
    (θ_run Cert.KernelIdeal.defs _ _).mono (fun _ h c => ⟨h.1 c, h.2 c⟩)
      (θ_run_and (Cert.KernelIdeal.Value.run m g) (Cert.KernelIdeal.Gen.unchanged m g)),
    (θ_run Cert.ReferenceIdeal.defs _ _).mono (fun _ r c => ⟨(r c).1.trans (encoded_eq m m' h c (e c)), (r c).2⟩)
      (Cert.ReferenceIdeal.Value.run m' g')⟩

/-- The certificate's claim. -/
theorem claim : Cert.Claim := ⟨Cert.Kernel.Gen.facts, Cert.KernelIdeal.Gen.facts, Cert.ReferenceIdeal.Gen.facts,
  Cert.Pre_finite_inputs.facts, fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial, algebraic⟩

end Cert.Proof

end
